-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_names_entries [hPre_names_entries : Cert.Pre_names_entries.Facts] (m : (ℓ : Loc Cert.KernelIdeal.nD Cert.KernelIdeal.τ Cert.KernelIdeal.sig) → Buf (Elt Ideal) ℓ) : Prop :=
  ∀ c : Dev Cert.KernelIdeal.nD,
    (Cert.Pre_names_entries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_names_entries [hPre_names_entries : Cert.Pre_names_entries.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_names_entries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_names_entries [hKernelIdeal : Cert.KernelIdeal.Facts] [hPre_names_entries : Cert.Pre_names_entries.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_names_entries m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_names_entries [hReferenceIdeal : Cert.ReferenceIdeal.Facts] [hPre_names_entries : Cert.Pre_names_entries.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_names_entries m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "c_1" .f32 0xBE69EBF4#32 ((Real.log ((5 / 2) * Real.pi⁻¹) : ℝ) : EReal)
  ∧ IdealRules.named_const.Statement Cert.KernelIdeal.κ "c_20" .f32 0xBF6BED15#32 ((Real.log ((5 / 4) * Real.pi⁻¹) : ℝ) : EReal)
  ∧ IdealRules.named_const.Statement Cert.KernelIdeal.κ "k_21" .f32 0x3E638E39#32 ((2 / 9 : ℝ) : EReal)
  ∧ IdealRules.named_const.Statement Cert.KernelIdeal.κ "c_21" .f32 0xBFA9DCD2#32 ((Real.log ((5 / 6) * Real.pi⁻¹) : ℝ) : EReal)

def algebraic_KernelIdeal_ReferenceIdeal_pre_names_entries [hKernelIdeal : Cert.KernelIdeal.Facts] [hReferenceIdeal : Cert.ReferenceIdeal.Facts] [hPre_names_entries : Cert.Pre_names_entries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_names_entries m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v118) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_names_entries : Cert.Pre_names_entries.Facts),
    quiescent_Kernel (hKernel := hKernel)
    ∧ quiescent_KernelIdeal (hKernelIdeal := hKernelIdeal)
    ∧ quiescent_KernelIdeal_pre_names_entries (hKernelIdeal := hKernelIdeal) (hPre_names_entries := hPre_names_entries)
    ∧ quiescent_ReferenceIdeal (hReferenceIdeal := hReferenceIdeal)
    ∧ quiescent_ReferenceIdeal_pre_names_entries (hReferenceIdeal := hReferenceIdeal) (hPre_names_entries := hPre_names_entries)
    ∧ preserves_Kernel_KernelIdeal
    ∧ algebraic_KernelIdeal_ReferenceIdeal_pre_names_entries (hKernelIdeal := hKernelIdeal) (hReferenceIdeal := hReferenceIdeal) (hPre_names_entries := hPre_names_entries)
-- ==== Pre_names_entries.lean ====
abbrev S131072 : Shape := ⟨1, ![131072]⟩
abbrev S1 : Shape := ⟨1, ![1]⟩
abbrev S_ : Shape := ⟨0, ![]⟩

class Facts : Prop where
  bcast_S_S131072 : S_.BroadcastsInDim S131072 (![] : Fin 0 → Fin S131072.rank)
  reducesTo_S131072_S_d0 : S131072.ReducesTo [0] S_
  h_S_ : 0 < S_.numel

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg4 : IVec S131072 32) (main_arg7 : IVec S131072 32) (main_arg8 : IVec S131072 32) (main_v12 : IVec S_ 1) (main_v14 : IVec S131072 1) (main_v15 : IVec S131072 32) : IVec S_ 1 :=
  let main_v16 : IVec S131072 1 := cmpi .sle main_arg4 main_v15
  let main_v17 : IVec S131072 1 := andi main_v14 main_v16
  let main_c_7 : IVec S_ 1 := constantI S_ 1 1#1
  let main_v18 : IVec S_ 1 := (fun x v => Host.reduce IntOp.andi x v reducesTo_S131072_S_d0 h_S_) main_v17 main_c_7
  let main_v19 : IVec S_ 1 := andi main_v12 main_v18
  let main_c_8 : IVec S_ 32 := constantI S_ 32 4294967295#32
  let main_v20 : IVec S131072 32 := broadcastInDim S131072 ![] bcast_S_S131072 main_c_8
  let main_v21 : IVec S131072 1 := cmpi .sge main_arg7 main_v20
  let main_c_9 : IVec S_ 32 := constantI S_ 32 2#32
  let main_v22 : IVec S131072 32 := broadcastInDim S131072 ![] bcast_S_S131072 main_c_9
  let main_v23 : IVec S131072 1 := cmpi .sle main_arg7 main_v22
  let main_v24 : IVec S131072 1 := andi main_v21 main_v23
  let main_c_10 : IVec S_ 1 := constantI S_ 1 1#1
  let main_v25 : IVec S_ 1 := (fun x v => Host.reduce IntOp.andi x v reducesTo_S131072_S_d0 h_S_) main_v24 main_c_10
  let main_v26 : IVec S_ 1 := andi main_v19 main_v25
  let main_c_11 : IVec S_ 32 := constantI S_ 32 4294967294#32
  let main_v27 : IVec S131072 32 := broadcastInDim S131072 ![] bcast_S_S131072 main_c_11
  let main_v28 : IVec S131072 1 := cmpi .sge main_arg8 main_v27
  let main_c_12 : IVec S_ 32 := constantI S_ 32 1#32
  let main_v29 : IVec S131072 32 := broadcastInDim S131072 ![] bcast_S_S131072 main_c_12
  let main_v30 : IVec S131072 1 := cmpi .sle main_arg8 main_v29
  let main_v31 : IVec S131072 1 := andi main_v28 main_v30
  let main_c_13 : IVec S_ 1 := constantI S_ 1 1#1
  let main_v32 : IVec S_ 1 := (fun x v => Host.reduce IntOp.andi x v reducesTo_S131072_S_d0 h_S_) main_v31 main_c_13
  fn_part2 (F := F) main_v26 main_v32

def fn {F : FTy → Type} [FloatOps F] (main_arg0 : IVec S131072 32) (main_arg1 : FVec F S131072 .f32) (main_arg2 : FVec F S131072 .f32) (main_arg3 : IVec S131072 32) (main_arg4 : IVec S131072 32) (main_arg5 : FVec F S131072 .f32) (main_arg6 : FVec F S131072 .f32) (main_arg7 : IVec S131072 32) (main_arg8 : IVec S131072 32) (main_arg9 : FVec F S131072 .f32) (main_arg10 : FVec F S131072 .f32) (main_arg11 : FVec F S1 .f32) : IVec S_ 1 :=
  let main_c : IVec S_ 32 := constantI S_ 32 4294967295#32
  let main_v0 : IVec S131072 32 := broadcastInDim S131072 ![] bcast_S_S131072 main_c
  let main_v1 : IVec S131072 1 := cmpi .sge main_arg0 main_v0
  let main_c_0 : IVec S_ 32 := constantI S_ 32 2#32
  let main_v2 : IVec S131072 32 := broadcastInDim S131072 ![] bcast_S_S131072 main_c_0
  let main_v3 : IVec S131072 1 := cmpi .sle main_arg0 main_v2
  let main_v4 : IVec S131072 1 := andi main_v1 main_v3
  let main_c_1 : IVec S_ 1 := constantI S_ 1 1#1
  let main_v5 : IVec S_ 1 := (fun x v => Host.reduce IntOp.andi x v reducesTo_S131072_S_d0 h_S_) main_v4 main_c_1
  let main_c_2 : IVec S_ 32 := constantI S_ 32 4294967295#32
  let main_v6 : IVec S131072 32 := broadcastInDim S131072 ![] bcast_S_S131072 main_c_2
  let main_v7 : IVec S131072 1 := cmpi .sge main_arg3 main_v6
  let main_c_3 : IVec S_ 32 := constantI S_ 32 2#32
  let main_v8 : IVec S131072 32 := broadcastInDim S131072 ![] bcast_S_S131072 main_c_3
  let main_v9 : IVec S131072 1 := cmpi .sle main_arg3 main_v8
  let main_v10 : IVec S131072 1 := andi main_v7 main_v9
  let main_c_4 : IVec S_ 1 := constantI S_ 1 1#1
  let main_v11 : IVec S_ 1 := (fun x v => Host.reduce IntOp.andi x v reducesTo_S131072_S_d0 h_S_) main_v10 main_c_4
  let main_v12 : IVec S_ 1 := andi main_v5 main_v11
  let main_c_5 : IVec S_ 32 := constantI S_ 32 4294967294#32
  let main_v13 : IVec S131072 32 := broadcastInDim S131072 ![] bcast_S_S131072 main_c_5
  let main_v14 : IVec S131072 1 := cmpi .sge main_arg4 main_v13
  let main_c_6 : IVec S_ 32 := constantI S_ 32 1#32
  let main_v15 : IVec S131072 32 := broadcastInDim S131072 ![] bcast_S_S131072 main_c_6
  fn_part1 (F := F) main_arg4 main_arg7 main_arg8 main_v12 main_v14 main_v15
-- ==== Kernel.lean ====
abbrev S131072 : Shape := ⟨1, ![131072]⟩
abbrev S1 : Shape := ⟨1, ![1]⟩
abbrev S1x1 : Shape := ⟨2, ![1, 1]⟩
abbrev S1024x128 : Shape := ⟨2, ![1024, 128]⟩
abbrev S512x128 : Shape := ⟨2, ![512, 128]⟩

abbrev nBuf : Space → Nat
  | .hbm => 25
  | .vmem => 18
  | .smem => 1
  | _ => 0

abbrev bufTy : (tb : Table) → Fin (tcTables nBuf tb) → BufTy
  | .hbm, ⟨0, _⟩ => ⟨S131072, .i32⟩
  | .hbm, ⟨1, _⟩ => ⟨S131072, .f32⟩
  | .hbm, ⟨2, _⟩ => ⟨S131072, .f32⟩
  | .hbm, ⟨3, _⟩ => ⟨S131072, .i32⟩
  | .hbm, ⟨4, _⟩ => ⟨S131072, .i32⟩
  | .hbm, ⟨5, _⟩ => ⟨S131072, .f32⟩
  | .hbm, ⟨6, _⟩ => ⟨S131072, .f32⟩
  | .hbm, ⟨7, _⟩ => ⟨S131072, .i32⟩
  | .hbm, ⟨8, _⟩ => ⟨S131072, .i32⟩
  | .hbm, ⟨9, _⟩ => ⟨S131072, .f32⟩
  | .hbm, ⟨10, _⟩ => ⟨S131072, .f32⟩
  | .hbm, ⟨11, _⟩ => ⟨S1, .f32⟩
  | .hbm, ⟨12, _⟩ => ⟨S1x1, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S1024x128, .f32⟩
  | .hbm, ⟨20, _⟩ => ⟨S1024x128, .f32⟩
  | .hbm, ⟨21, _⟩ => ⟨S1024x128, .f32⟩
  | .hbm, ⟨22, _⟩ => ⟨S131072, .f32⟩
  | .hbm, ⟨23, _⟩ => ⟨S131072, .f32⟩
  | .hbm, ⟨24, _⟩ => ⟨S131072, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .smem, ⟨0, _⟩ => ⟨S1x1, .f32⟩
  | _, _ => ⟨S131072, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "c_1" => some ((Real.log ((5 / 2) * Real.pi⁻¹) : ℝ) : EReal)
  | "c_20" => some ((Real.log ((5 / 4) * Real.pi⁻¹) : ℝ) : EReal)
  | "c_21" => some ((Real.log ((5 / 6) * Real.pi⁻¹) : ℝ) : EReal)
  | "k_21" => some ((2 / 9 : ℝ) : EReal)
  | _ => none
-- ==== ReferenceIdeal.lean ====
abbrev S131072 : Shape := ⟨1, ![131072]⟩
abbrev S1 : Shape := ⟨1, ![1]⟩
abbrev S2 : Shape := ⟨1, ![2]⟩
abbrev S_ : Shape := ⟨0, ![]⟩
abbrev S131072x1 : Shape := ⟨2, ![131072, 1]⟩
abbrev S1x1 : Shape := ⟨2, ![1, 1]⟩

abbrev nBuf : Space → Nat
  | .hbm => 274
  | .vmem => 0
  | .smem => 0
  | _ => 0

abbrev hbmTy0_0 (i : Nat) : BufTy := match i % 128 with
  | 0 => ⟨S131072, .i32⟩
  | 1 => ⟨S131072, .f32⟩
  | 2 => ⟨S131072, .f32⟩
  | 3 => ⟨S131072, .i32⟩
  | 4 => ⟨S131072, .i32⟩
  | 5 => ⟨S131072, .f32⟩
  | 6 => ⟨S131072, .f32⟩
  | 7 => ⟨S131072, .i32⟩
  | 8 => ⟨S131072, .i32⟩
  | 9 => ⟨S131072, .f32⟩
  | 10 => ⟨S131072, .f32⟩
  | 11 => ⟨S1, .f32⟩
  | 12 => ⟨S2, .f32⟩
  | 13 => ⟨S2, .f32⟩
  | 14 => ⟨S2, .f32⟩
  | 15 => ⟨S_, .f32⟩
  | 16 => ⟨S_, .f32⟩
  | 17 => ⟨S_, .f32⟩
  | 18 => ⟨S2, .f32⟩
  | 19 => ⟨S2, .f32⟩
  | 20 => ⟨S_, .i32⟩
  | 21 => ⟨S131072, .i32⟩
  | 22 => ⟨S131072, .i32⟩
  | 23 => ⟨S_, .i32⟩
  | 24 => ⟨S131072, .i32⟩
  | 25 => ⟨S131072, .i1⟩
  | 26 => ⟨S_, .i32⟩
  | 27 => ⟨S131072, .i32⟩
  | 28 => ⟨S131072, .i32⟩
  | 29 => ⟨S131072, .i32⟩
  | 30 => ⟨S131072x1, .i32⟩
  | 31 => ⟨S1, .i32⟩
  | 32 => ⟨S_, .i32⟩
  | 33 => ⟨S131072x1, .i32⟩
  | 34 => ⟨S131072x1, .i1⟩
  | 35 => ⟨S1x1, .i32⟩
  | 36 => ⟨S131072x1, .i32⟩
  | 37 => ⟨S131072x1, .i1⟩
  | 38 => ⟨S131072x1, .i1⟩
  | 39 => ⟨S_, .i1⟩
  | 40 => ⟨S131072, .i1⟩
  | 41 => ⟨S131072, .f32⟩
  | 42 => ⟨S_, .f32⟩
  | 43 => ⟨S131072, .f32⟩
  | 44 => ⟨S131072, .f32⟩
  | 45 => ⟨S_, .f32⟩
  | 46 => ⟨S_, .f32⟩
  | 47 => ⟨S_, .f32⟩
  | 48 => ⟨S_, .f32⟩
  | 49 => ⟨S131072, .f32⟩
  | 50 => ⟨S131072, .f32⟩
  | 51 => ⟨S_, .f32⟩
  | 52 => ⟨S131072, .f32⟩
  | 53 => ⟨S131072, .f32⟩
  | 54 => ⟨S131072, .f32⟩
  | 55 => ⟨S_, .f32⟩
  | 56 => ⟨S131072, .f32⟩
  | 57 => ⟨S131072, .f32⟩
  | 58 => ⟨S_, .f32⟩
  | 59 => ⟨S_, .f32⟩
  | 60 => ⟨S131072, .f32⟩
  | 61 => ⟨S131072, .f32⟩
  | 62 => ⟨S_, .f32⟩
  | 63 => ⟨S_, .f32⟩
  | 64 => ⟨S_, .f32⟩
  | 65 => ⟨S131072, .f32⟩
  | 66 => ⟨S131072, .f32⟩
  | 67 => ⟨S131072, .f32⟩
  | 68 => ⟨S_, .f32⟩
  | 69 => ⟨S_, .f32⟩
  | 70 => ⟨S_, .f32⟩
  | 71 => ⟨S_, .f32⟩
  | 72 => ⟨S131072, .f32⟩
  | 73 => ⟨S131072, .f32⟩
  | 74 => ⟨S131072, .f32⟩
  | 75 => ⟨S131072, .f32⟩
  | 76 => ⟨S_, .f32⟩
  | 77 => ⟨S131072, .f32⟩
  | 78 => ⟨S131072, .f32⟩
  | 79 => ⟨S_, .f32⟩
  | 80 => ⟨S131072, .f32⟩
  | 81 => ⟨S131072, .f32⟩
  | 82 => ⟨S_, .f32⟩
  | 83 => ⟨S_, .f32⟩
  | 84 => ⟨S_, .f32⟩
  | 85 => ⟨S131072, .f32⟩
  | 86 => ⟨S131072, .f32⟩
  | 87 => ⟨S131072, .f32⟩
  | 88 => ⟨S_, .i32⟩
  | 89 => ⟨S131072, .i32⟩
  | 90 => ⟨S131072, .i32⟩
  | 91 => ⟨S_, .i32⟩
  | 92 => ⟨S131072, .i32⟩
  | 93 => ⟨S131072, .i1⟩
  | 94 => ⟨S_, .i32⟩
  | 95 => ⟨S131072, .i32⟩
  | 96 => ⟨S131072, .i32⟩
  | 97 => ⟨S131072, .i32⟩
  | 98 => ⟨S131072x1, .i32⟩
  | 99 => ⟨S1, .i32⟩
  | 100 => ⟨S_, .i32⟩
  | 101 => ⟨S131072x1, .i32⟩
  | 102 => ⟨S131072x1, .i1⟩
  | 103 => ⟨S1x1, .i32⟩
  | 104 => ⟨S131072x1, .i32⟩
  | 105 => ⟨S131072x1, .i1⟩
  | 106 => ⟨S131072x1, .i1⟩
  | 107 => ⟨S_, .i1⟩
  | 108 => ⟨S131072, .i1⟩
  | 109 => ⟨S131072, .f32⟩
  | 110 => ⟨S_, .f32⟩
  | 111 => ⟨S131072, .f32⟩
  | 112 => ⟨S131072, .f32⟩
  | 113 => ⟨S_, .i32⟩
  | 114 => ⟨S131072, .i32⟩
  | 115 => ⟨S131072, .i1⟩
  | 116 => ⟨S_, .i32⟩
  | 117 => ⟨S131072, .i32⟩
  | 118 => ⟨S131072, .i32⟩
  | 119 => ⟨S131072, .i32⟩
  | 120 => ⟨S131072x1, .i32⟩
  | 121 => ⟨S1, .i32⟩
  | 122 => ⟨S_, .i32⟩
  | 123 => ⟨S131072x1, .i32⟩
  | 124 => ⟨S131072x1, .i1⟩
  | 125 => ⟨S1x1, .i32⟩
  | 126 => ⟨S131072x1, .i32⟩
  | 127 => ⟨S131072x1, .i1⟩
  | _ => ⟨S131072, .i32⟩

abbrev hbmTy0_1 (i : Nat) : BufTy := match i % 128 with
  | 0 => ⟨S131072x1, .i1⟩
  | 1 => ⟨S_, .i1⟩
  | 2 => ⟨S131072, .i1⟩
  | 3 => ⟨S131072, .f32⟩
  | 4 => ⟨S_, .f32⟩
  | 5 => ⟨S131072, .f32⟩
  | 6 => ⟨S131072, .f32⟩
  | 7 => ⟨S131072, .f32⟩
  | 8 => ⟨S1, .f32⟩
  | 9 => ⟨S_, .f32⟩
  | 10 => ⟨S_, .f32⟩
  | 11 => ⟨S_, .f32⟩
  | 12 => ⟨S_, .f32⟩
  | 13 => ⟨S_, .f32⟩
  | 14 => ⟨S131072, .f32⟩
  | 15 => ⟨S131072, .f32⟩
  | 16 => ⟨S_, .f32⟩
  | 17 => ⟨S131072, .f32⟩
  | 18 => ⟨S131072, .f32⟩
  | 19 => ⟨S131072, .f32⟩
  | 20 => ⟨S_, .f32⟩
  | 21 => ⟨S131072, .f32⟩
  | 22 => ⟨S131072, .f32⟩
  | 23 => ⟨S_, .f32⟩
  | 24 => ⟨S_, .f32⟩
  | 25 => ⟨S131072, .f32⟩
  | 26 => ⟨S131072, .f32⟩
  | 27 => ⟨S_, .f32⟩
  | 28 => ⟨S_, .f32⟩
  | 29 => ⟨S_, .f32⟩
  | 30 => ⟨S131072, .f32⟩
  | 31 => ⟨S131072, .f32⟩
  | 32 => ⟨S131072, .f32⟩
  | 33 => ⟨S_, .f32⟩
  | 34 => ⟨S_, .f32⟩
  | 35 => ⟨S_, .f32⟩
  | 36 => ⟨S_, .f32⟩
  | 37 => ⟨S131072, .f32⟩
  | 38 => ⟨S131072, .f32⟩
  | 39 => ⟨S131072, .f32⟩
  | 40 => ⟨S131072, .f32⟩
  | 41 => ⟨S_, .f32⟩
  | 42 => ⟨S131072, .f32⟩
  | 43 => ⟨S131072, .f32⟩
  | 44 => ⟨S_, .f32⟩
  | 45 => ⟨S131072, .f32⟩
  | 46 => ⟨S131072, .f32⟩
  | 47 => ⟨S_, .f32⟩
  | 48 => ⟨S_, .f32⟩
  | 49 => ⟨S_, .f32⟩
  | 50 => ⟨S131072, .f32⟩
  | 51 => ⟨S131072, .f32⟩
  | 52 => ⟨S131072, .f32⟩
  | 53 => ⟨S_, .i32⟩
  | 54 => ⟨S131072, .i32⟩
  | 55 => ⟨S131072, .i32⟩
  | 56 => ⟨S_, .i32⟩
  | 57 => ⟨S131072, .i32⟩
  | 58 => ⟨S131072, .i1⟩
  | 59 => ⟨S_, .i32⟩
  | 60 => ⟨S131072, .i32⟩
  | 61 => ⟨S131072, .i32⟩
  | 62 => ⟨S131072, .i32⟩
  | 63 => ⟨S131072x1, .i32⟩
  | 64 => ⟨S1, .i32⟩
  | 65 => ⟨S_, .i32⟩
  | 66 => ⟨S131072x1, .i32⟩
  | 67 => ⟨S131072x1, .i1⟩
  | 68 => ⟨S1x1, .i32⟩
  | 69 => ⟨S131072x1, .i32⟩
  | 70 => ⟨S131072x1, .i1⟩
  | 71 => ⟨S131072x1, .i1⟩
  | 72 => ⟨S_, .i1⟩
  | 73 => ⟨S131072, .i1⟩
  | 74 => ⟨S131072, .f32⟩
  | 75 => ⟨S_, .f32⟩
  | 76 => ⟨S131072, .f32⟩
  | 77 => ⟨S131072, .f32⟩
  | 78 => ⟨S_, .i32⟩
  | 79 => ⟨S131072, .i32⟩
  | 80 => ⟨S131072, .i1⟩
  | 81 => ⟨S_, .i32⟩
  | 82 => ⟨S131072, .i32⟩
  | 83 => ⟨S131072, .i32⟩
  | 84 => ⟨S131072, .i32⟩
  | 85 => ⟨S131072x1, .i32⟩
  | 86 => ⟨S1, .i32⟩
  | 87 => ⟨S_, .i32⟩
  | 88 => ⟨S131072x1, .i32⟩
  | 89 => ⟨S131072x1, .i1⟩
  | 90 => ⟨S1x1, .i32⟩
  | 91 => ⟨S131072x1, .i32⟩
  | 92 => ⟨S131072x1, .i1⟩
  | 93 => ⟨S131072x1, .i1⟩
  | 94 => ⟨S_, .i1⟩
  | 95 => ⟨S131072, .i1⟩
  | 96 => ⟨S131072, .f32⟩
  | 97 => ⟨S_, .f32⟩
  | 98 => ⟨S131072, .f32⟩
  | 99 => ⟨S131072, .f32⟩
  | 100 => ⟨S131072, .f32⟩
  | 101 => ⟨S1, .f32⟩
  | 102 => ⟨S_, .f32⟩
  | 103 => ⟨S_, .f32⟩
  | 104 => ⟨S_, .f32⟩
  | 105 => ⟨S_, .f32⟩
  | 106 => ⟨S_, .f32⟩
  | 107 => ⟨S131072, .f32⟩
  | 108 => ⟨S131072, .f32⟩
  | 109 => ⟨S_, .f32⟩
  | 110 => ⟨S131072, .f32⟩
  | 111 => ⟨S131072, .f32⟩
  | 112 => ⟨S131072, .f32⟩
  | 113 => ⟨S_, .f32⟩
  | 114 => ⟨S131072, .f32⟩
  | 115 => ⟨S131072, .f32⟩
  | 116 => ⟨S_, .f32⟩
  | 117 => ⟨S_, .f32⟩
  | 118 => ⟨S131072, .f32⟩
  | 119 => ⟨S131072, .f32⟩
  | 120 => ⟨S_, .f32⟩
  | 121 => ⟨S_, .f32⟩
  | 122 => ⟨S_, .f32⟩
  | 123 => ⟨S131072, .f32⟩
  | 124 => ⟨S131072, .f32⟩
  | 125 => ⟨S131072, .f32⟩
  | 126 => ⟨S_, .f32⟩
  | 127 => ⟨S_, .f32⟩
  | _ => ⟨S131072, .i32⟩

abbrev hbmTy0_2 (i : Nat) : BufTy := match i % 128 with
  | 0 => ⟨S_, .f32⟩
  | 1 => ⟨S_, .f32⟩
  | 2 => ⟨S131072, .f32⟩
  | 3 => ⟨S131072, .f32⟩
  | 4 => ⟨S131072, .f32⟩
  | 5 => ⟨S131072, .f32⟩
  | 6 => ⟨S_, .f32⟩
  | 7 => ⟨S131072, .f32⟩
  | 8 => ⟨S131072, .f32⟩
  | 9 => ⟨S_, .f32⟩
  | 10 => ⟨S131072, .f32⟩
  | 11 => ⟨S131072, .f32⟩
  | 12 => ⟨S_, .f32⟩
  | 13 => ⟨S_, .f32⟩
  | 14 => ⟨S_, .f32⟩
  | 15 => ⟨S131072, .f32⟩
  | 16 => ⟨S131072, .f32⟩
  | 17 => ⟨S131072, .f32⟩
  | _ => ⟨S131072, .i32⟩

abbrev hbmTy (i : Nat) : BufTy := match i / 128 with
  | 0 => hbmTy0_0 i
  | 1 => hbmTy0_1 i
  | 2 => hbmTy0_2 i
  | _ => ⟨S131072, .i32⟩

abbrev bufTy : (tb : Table) → Fin (tcTables nBuf tb) → BufTy
  | .hbm, ⟨i, _⟩ => hbmTy i
  | _, _ => ⟨S131072, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_cst_1 : Ref sig .tc := ⟨.hbm, 14, rfl⟩
abbrev main_cst_2 : Ref sig .tc := ⟨.hbm, 15, rfl⟩
abbrev main_cst_3 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_cst : Ref sig .tc := ⟨.hbm, 42, rfl⟩
abbrev main_call0_v14 : Ref sig .tc := ⟨.hbm, 43, rfl⟩
abbrev main_v5 : Ref sig .tc := ⟨.hbm, 44, rfl⟩
abbrev main_cst_4 : Ref sig .tc := ⟨.hbm, 45, rfl⟩
abbrev main_v6 : Ref sig .tc := ⟨.hbm, 46, rfl⟩
abbrev main_cst_5 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_cst_6 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_cst_7 : Ref sig .tc := ⟨.hbm, 55, rfl⟩
abbrev main_v13 : Ref sig .tc := ⟨.hbm, 56, rfl⟩
abbrev main_v14 : Ref sig .tc := ⟨.hbm, 57, rfl⟩
abbrev main_cst_8 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_cst_9 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_cst_10 : Ref sig .tc := ⟨.hbm, 68, rfl⟩
abbrev main_v23 : Ref sig .tc := ⟨.hbm, 69, rfl⟩
abbrev main_cst_11 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_12 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_cst_13 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_c_14 : Ref sig .tc := ⟨.hbm, 88, rfl⟩
abbrev main_v39 : Ref sig .tc := ⟨.hbm, 89, rfl⟩
abbrev main_v40 : Ref sig .tc := ⟨.hbm, 90, rfl⟩
abbrev main_call1_c : Ref sig .tc := ⟨.hbm, 91, rfl⟩
abbrev main_call1_v0 : Ref sig .tc := ⟨.hbm, 92, rfl⟩
abbrev main_call1_v1 : Ref sig .tc := ⟨.hbm, 93, rfl⟩
abbrev main_call1_c_0 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_c_1 : Ref sig .tc := ⟨.hbm, 99, rfl⟩
abbrev main_call1_c_2 : Ref sig .tc := ⟨.hbm, 100, rfl⟩
abbrev main_call1_v6 : Ref sig .tc := ⟨.hbm, 101, rfl⟩
abbrev main_call1_v7 : Ref sig .tc := ⟨.hbm, 102, rfl⟩
abbrev main_call1_v8 : Ref sig .tc := ⟨.hbm, 103, rfl⟩
abbrev main_call1_v9 : Ref sig .tc := ⟨.hbm, 104, rfl⟩
abbrev main_call1_v10 : Ref sig .tc := ⟨.hbm, 105, rfl⟩
abbrev main_call1_v11 : Ref sig .tc := ⟨.hbm, 106, rfl⟩
abbrev main_call1_c_3 : Ref sig .tc := ⟨.hbm, 107, rfl⟩
abbrev main_call1_v12 : Ref sig .tc := ⟨.hbm, 108, rfl⟩
abbrev main_call1_v13 : Ref sig .tc := ⟨.hbm, 109, rfl⟩
abbrev main_call1_cst : Ref sig .tc := ⟨.hbm, 110, rfl⟩
abbrev main_call1_v14 : Ref sig .tc := ⟨.hbm, 111, rfl⟩
abbrev main_v41 : Ref sig .tc := ⟨.hbm, 112, rfl⟩
abbrev main_call2_c : Ref sig .tc := ⟨.hbm, 113, rfl⟩
abbrev main_call2_v0 : Ref sig .tc := ⟨.hbm, 114, rfl⟩
abbrev main_call2_v1 : Ref sig .tc := ⟨.hbm, 115, rfl⟩
abbrev main_call2_c_0 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_v5 : Ref sig .tc := ⟨.hbm, 120, rfl⟩
abbrev main_call2_c_1 : Ref sig .tc := ⟨.hbm, 121, rfl⟩
abbrev main_call2_c_2 : Ref sig .tc := ⟨.hbm, 122, rfl⟩
abbrev main_call2_v6 : Ref sig .tc := ⟨.hbm, 123, rfl⟩
abbrev main_call2_v7 : Ref sig .tc := ⟨.hbm, 124, rfl⟩
abbrev main_call2_v8 : Ref sig .tc := ⟨.hbm, 125, rfl⟩
abbrev main_call2_v9 : Ref sig .tc := ⟨.hbm, 126, rfl⟩
abbrev main_call2_v10 : Ref sig .tc := ⟨.hbm, 127, rfl⟩
abbrev main_call2_v11 : Ref sig .tc := ⟨.hbm, 128, rfl⟩
abbrev main_call2_c_3 : Ref sig .tc := ⟨.hbm, 129, rfl⟩
abbrev main_call2_v12 : Ref sig .tc := ⟨.hbm, 130, rfl⟩
abbrev main_call2_v13 : Ref sig .tc := ⟨.hbm, 131, rfl⟩
abbrev main_call2_cst : Ref sig .tc := ⟨.hbm, 132, rfl⟩
abbrev main_call2_v14 : Ref sig .tc := ⟨.hbm, 133, rfl⟩
abbrev main_v42 : Ref sig .tc := ⟨.hbm, 134, rfl⟩
abbrev main_v43 : Ref sig .tc := ⟨.hbm, 135, rfl⟩
abbrev main_v44 : Ref sig .tc := ⟨.hbm, 136, rfl⟩
abbrev main_v45 : Ref sig .tc := ⟨.hbm, 137, rfl⟩
abbrev main_cst_15 : Ref sig .tc := ⟨.hbm, 138, rfl⟩
abbrev main_v46 : Ref sig .tc := ⟨.hbm, 139, rfl⟩
abbrev main_cst_16 : Ref sig .tc := ⟨.hbm, 140, rfl⟩
abbrev main_v47 : Ref sig .tc := ⟨.hbm, 141, rfl⟩
abbrev main_v48 : Ref sig .tc := ⟨.hbm, 142, rfl⟩
abbrev main_v49 : Ref sig .tc := ⟨.hbm, 143, rfl⟩
abbrev main_cst_17 : Ref sig .tc := ⟨.hbm, 144, rfl⟩
abbrev main_v50 : Ref sig .tc := ⟨.hbm, 145, rfl⟩
abbrev main_v51 : Ref sig .tc := ⟨.hbm, 146, rfl⟩
abbrev main_v52 : Ref sig .tc := ⟨.hbm, 147, rfl⟩
abbrev main_cst_18 : Ref sig .tc := ⟨.hbm, 148, rfl⟩
abbrev main_v53 : Ref sig .tc := ⟨.hbm, 149, rfl⟩
abbrev main_v54 : Ref sig .tc := ⟨.hbm, 150, rfl⟩
abbrev main_cst_19 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_cst_20 : Ref sig .tc := ⟨.hbm, 156, rfl⟩
abbrev main_v59 : Ref sig .tc := ⟨.hbm, 157, rfl⟩
abbrev main_v60 : Ref sig .tc := ⟨.hbm, 158, rfl⟩
abbrev main_v61 : Ref sig .tc := ⟨.hbm, 159, rfl⟩
abbrev main_v62 : Ref sig .tc := ⟨.hbm, 160, rfl⟩
abbrev main_cst_21 : Ref sig .tc := ⟨.hbm, 161, rfl⟩
abbrev main_v63 : Ref sig .tc := ⟨.hbm, 162, rfl⟩
abbrev main_cst_22 : Ref sig .tc := ⟨.hbm, 163, rfl⟩
abbrev main_v64 : Ref sig .tc := ⟨.hbm, 164, rfl⟩
abbrev main_v65 : Ref sig .tc := ⟨.hbm, 165, rfl⟩
abbrev main_v66 : Ref sig .tc := ⟨.hbm, 166, rfl⟩
abbrev main_v67 : Ref sig .tc := ⟨.hbm, 167, rfl⟩
abbrev main_v68 : Ref sig .tc := ⟨.hbm, 168, rfl⟩
abbrev main_cst_23 : Ref sig .tc := ⟨.hbm, 169, rfl⟩
abbrev main_v69 : Ref sig .tc := ⟨.hbm, 170, rfl⟩
abbrev main_v70 : Ref sig .tc := ⟨.hbm, 171, rfl⟩
abbrev main_v71 : Ref sig .tc := ⟨.hbm, 172, rfl⟩
abbrev main_v72 : Ref sig .tc := ⟨.hbm, 173, rfl⟩
abbrev main_v73 : Ref sig .tc := ⟨.hbm, 174, rfl⟩
abbrev main_v74 : Ref sig .tc := ⟨.hbm, 175, rfl⟩
abbrev main_cst_24 : Ref sig .tc := ⟨.hbm, 176, rfl⟩
abbrev main_v75 : Ref sig .tc := ⟨.hbm, 177, rfl⟩
abbrev main_v76 : Ref sig .tc := ⟨.hbm, 178, rfl⟩
abbrev main_v77 : Ref sig .tc := ⟨.hbm, 179, rfl⟩
abbrev main_v78 : Ref sig .tc := ⟨.hbm, 180, rfl⟩
abbrev main_c_25 : Ref sig .tc := ⟨.hbm, 181, rfl⟩
abbrev main_v79 : Ref sig .tc := ⟨.hbm, 182, rfl⟩
abbrev main_v80 : Ref sig .tc := ⟨.hbm, 183, rfl⟩
abbrev main_call3_c : Ref sig .tc := ⟨.hbm, 184, rfl⟩
abbrev main_call3_v0 : Ref sig .tc := ⟨.hbm, 185, rfl⟩
abbrev main_call3_v1 : Ref sig .tc := ⟨.hbm, 186, rfl⟩
abbrev main_call3_c_0 : Ref sig .tc := ⟨.hbm, 187, rfl⟩
abbrev main_call3_v2 : Ref sig .tc := ⟨.hbm, 188, rfl⟩
abbrev main_call3_v3 : Ref sig .tc := ⟨.hbm, 189, rfl⟩
abbrev main_call3_v4 : Ref sig .tc := ⟨.hbm, 190, rfl⟩
abbrev main_call3_v5 : Ref sig .tc := ⟨.hbm, 191, rfl⟩
abbrev main_call3_c_1 : Ref sig .tc := ⟨.hbm, 192, rfl⟩
abbrev main_call3_c_2 : Ref sig .tc := ⟨.hbm, 193, rfl⟩
abbrev main_call3_v6 : Ref sig .tc := ⟨.hbm, 194, rfl⟩
abbrev main_call3_v7 : Ref sig .tc := ⟨.hbm, 195, rfl⟩
abbrev main_call3_v8 : Ref sig .tc := ⟨.hbm, 196, rfl⟩
abbrev main_call3_v9 : Ref sig .tc := ⟨.hbm, 197, rfl⟩
abbrev main_call3_v10 : Ref sig .tc := ⟨.hbm, 198, rfl⟩
abbrev main_call3_v11 : Ref sig .tc := ⟨.hbm, 199, rfl⟩
abbrev main_call3_c_3 : Ref sig .tc := ⟨.hbm, 200, rfl⟩
abbrev main_call3_v12 : Ref sig .tc := ⟨.hbm, 201, rfl⟩
abbrev main_call3_v13 : Ref sig .tc := ⟨.hbm, 202, rfl⟩
abbrev main_call3_cst : Ref sig .tc := ⟨.hbm, 203, rfl⟩
abbrev main_call3_v14 : Ref sig .tc := ⟨.hbm, 204, rfl⟩
abbrev main_v81 : Ref sig .tc := ⟨.hbm, 205, rfl⟩
abbrev main_call4_c : Ref sig .tc := ⟨.hbm, 206, rfl⟩
abbrev main_call4_v0 : Ref sig .tc := ⟨.hbm, 207, rfl⟩
abbrev main_call4_v1 : Ref sig .tc := ⟨.hbm, 208, rfl⟩
abbrev main_call4_c_0 : Ref sig .tc := ⟨.hbm, 209, rfl⟩
abbrev main_call4_v2 : Ref sig .tc := ⟨.hbm, 210, rfl⟩
abbrev main_call4_v3 : Ref sig .tc := ⟨.hbm, 211, rfl⟩
abbrev main_call4_v4 : Ref sig .tc := ⟨.hbm, 212, rfl⟩
abbrev main_call4_v5 : Ref sig .tc := ⟨.hbm, 213, rfl⟩
abbrev main_call4_c_1 : Ref sig .tc := ⟨.hbm, 214, rfl⟩
abbrev main_call4_c_2 : Ref sig .tc := ⟨.hbm, 215, rfl⟩
abbrev main_call4_v6 : Ref sig .tc := ⟨.hbm, 216, rfl⟩
abbrev main_call4_v7 : Ref sig .tc := ⟨.hbm, 217, rfl⟩
abbrev main_call4_v8 : Ref sig .tc := ⟨.hbm, 218, rfl⟩
abbrev main_call4_v9 : Ref sig .tc := ⟨.hbm, 219, rfl⟩
abbrev main_call4_v10 : Ref sig .tc := ⟨.hbm, 220, rfl⟩
abbrev main_call4_v11 : Ref sig .tc := ⟨.hbm, 221, rfl⟩
abbrev main_call4_c_3 : Ref sig .tc := ⟨.hbm, 222, rfl⟩
abbrev main_call4_v12 : Ref sig .tc := ⟨.hbm, 223, rfl⟩
abbrev main_call4_v13 : Ref sig .tc := ⟨.hbm, 224, rfl⟩
abbrev main_call4_cst : Ref sig .tc := ⟨.hbm, 225, rfl⟩
abbrev main_call4_v14 : Ref sig .tc := ⟨.hbm, 226, rfl⟩
abbrev main_v82 : Ref sig .tc := ⟨.hbm, 227, rfl⟩
abbrev main_v83 : Ref sig .tc := ⟨.hbm, 228, rfl⟩
abbrev main_v84 : Ref sig .tc := ⟨.hbm, 229, rfl⟩
abbrev main_v85 : Ref sig .tc := ⟨.hbm, 230, rfl⟩
abbrev main_cst_26 : Ref sig .tc := ⟨.hbm, 231, rfl⟩
abbrev main_v86 : Ref sig .tc := ⟨.hbm, 232, rfl⟩
abbrev main_cst_27 : Ref sig .tc := ⟨.hbm, 233, rfl⟩
abbrev main_v87 : Ref sig .tc := ⟨.hbm, 234, rfl⟩
abbrev main_v88 : Ref sig .tc := ⟨.hbm, 235, rfl⟩
abbrev main_v89 : Ref sig .tc := ⟨.hbm, 236, rfl⟩
abbrev main_cst_28 : Ref sig .tc := ⟨.hbm, 237, rfl⟩
abbrev main_v90 : Ref sig .tc := ⟨.hbm, 238, rfl⟩
abbrev main_v91 : Ref sig .tc := ⟨.hbm, 239, rfl⟩
abbrev main_v92 : Ref sig .tc := ⟨.hbm, 240, rfl⟩
abbrev main_cst_29 : Ref sig .tc := ⟨.hbm, 241, rfl⟩
abbrev main_v93 : Ref sig .tc := ⟨.hbm, 242, rfl⟩
abbrev main_v94 : Ref sig .tc := ⟨.hbm, 243, rfl⟩
abbrev main_cst_30 : Ref sig .tc := ⟨.hbm, 244, rfl⟩
abbrev main_v95 : Ref sig .tc := ⟨.hbm, 245, rfl⟩
abbrev main_v96 : Ref sig .tc := ⟨.hbm, 246, rfl⟩
abbrev main_v97 : Ref sig .tc := ⟨.hbm, 247, rfl⟩
abbrev main_v98 : Ref sig .tc := ⟨.hbm, 248, rfl⟩
abbrev main_cst_31 : Ref sig .tc := ⟨.hbm, 249, rfl⟩
abbrev main_v99 : Ref sig .tc := ⟨.hbm, 250, rfl⟩
abbrev main_v100 : Ref sig .tc := ⟨.hbm, 251, rfl⟩
abbrev main_v101 : Ref sig .tc := ⟨.hbm, 252, rfl⟩
abbrev main_v102 : Ref sig .tc := ⟨.hbm, 253, rfl⟩
abbrev main_cst_32 : Ref sig .tc := ⟨.hbm, 254, rfl⟩
abbrev main_v103 : Ref sig .tc := ⟨.hbm, 255, rfl⟩
abbrev main_cst_33 : Ref sig .tc := ⟨.hbm, 256, rfl⟩
abbrev main_v104 : Ref sig .tc := ⟨.hbm, 257, rfl⟩
abbrev main_v105 : Ref sig .tc := ⟨.hbm, 258, rfl⟩
abbrev main_v106 : Ref sig .tc := ⟨.hbm, 259, rfl⟩
abbrev main_v107 : Ref sig .tc := ⟨.hbm, 260, rfl⟩
abbrev main_v108 : Ref sig .tc := ⟨.hbm, 261, rfl⟩
abbrev main_cst_34 : Ref sig .tc := ⟨.hbm, 262, rfl⟩
abbrev main_v109 : Ref sig .tc := ⟨.hbm, 263, rfl⟩
abbrev main_v110 : Ref sig .tc := ⟨.hbm, 264, rfl⟩
abbrev main_v111 : Ref sig .tc := ⟨.hbm, 265, rfl⟩
abbrev main_v112 : Ref sig .tc := ⟨.hbm, 266, rfl⟩
abbrev main_v113 : Ref sig .tc := ⟨.hbm, 267, rfl⟩
abbrev main_v114 : Ref sig .tc := ⟨.hbm, 268, rfl⟩
abbrev main_cst_35 : Ref sig .tc := ⟨.hbm, 269, rfl⟩
abbrev main_v115 : Ref sig .tc := ⟨.hbm, 270, rfl⟩
abbrev main_v116 : Ref sig .tc := ⟨.hbm, 271, rfl⟩
abbrev main_v117 : Ref sig .tc := ⟨.hbm, 272, rfl⟩
abbrev main_v118 : Ref sig .tc := ⟨.hbm, 273, rfl⟩

abbrev nD : Nat := 1
abbrev τ : Topo := Topo.v7x

variable {F : FTy → Type} [FloatOps F]
-- ==== Proof.Block.lean ====
/- Hand-written, untrusted: WHAT ONE BLOCK COMPUTES, at any float values. Each of the three results of the kernel is one
   scalar function of an entry of its latent array and the same entry of its observation array (`logp`, at three constants
   of its own); the body stores, for each result, that function of its two input blocks. -/
module

public import proofs.«01_k».proof.Proof.Gen.KernelIdeal.Frame
public import Idealize.ShloMosaic.Lib.Pipeline.Value

@[expose] public section

noncomputable section

namespace Cert.Proof.Block

open Cert.KernelIdeal Cert.KernelIdeal.Gen Idealize.ShloMosaic Idealize.ShloMosaic.TcCoe Idealize.SL.Sem

variable {F : FTy → Type} [FloatOps F] [Named F]

/-- The log density the kernel computes at one entry: `c - k (x - μ)² - 50 (o - x)²`, in the kernel's order. -/
def logp (c k μ x o : F .f32) : F .f32 :=
  FloatOps.subf (FloatOps.subf c (FloatOps.mulf k (FloatOps.mulf (FloatOps.subf x μ) (FloatOps.subf x μ))))
    (FloatOps.mulf (Scalar.ofBits .f32 0x42480000#32) (FloatOps.mulf (FloatOps.subf o x) (FloatOps.subf o x)))

/-- The first result at an entry: the mean is an argument. -/
def logp1 (μ x o : F .f32) : F .f32 :=
  logp (Named.named κ "c_1" 0xBE69EBF4#32) (Scalar.ofBits .f32 0x3F000000#32) μ x o

/-- The second result at an entry: the mean is -2. -/
def logp20 (x o : F .f32) : F .f32 :=
  logp (Named.named κ "c_20" 0xBF6BED15#32) (Scalar.ofBits .f32 0x3F000000#32) (Scalar.ofBits .f32 0xC0000000#32) x o

/-- The third result at an entry: the mean is 2, the standard deviation 3/2. -/
def logp21 (x o : F .f32) : F .f32 :=
  logp (Named.named κ "c_21" 0xBFA9DCD2#32) (Named.named κ "k_21" 0x3E638E39#32) (Scalar.ofBits .f32 0x40000000#32) x o

/-- The payload of the first result's store is `logp1` entry by entry, -/
theorem pay2_eq (μ : F .f32) (x o : Vec F S512x128 .f32) : k0_pay2 μ x o = fun i => logp1 μ (x i) (o i) := by
  unfold k0_pay2
  dsimp only
  rw [shapeCast_self, shapeCast_self]
  rfl

/-- that of the second's `logp20`, -/
theorem pay3_eq (x o : Vec F S512x128 .f32) : k0_pay3 x o = fun i => logp20 (x i) (o i) := by
  unfold k0_pay3
  dsimp only
  rw [shapeCast_self, shapeCast_self]
  rfl

/-- and that of the third's `logp21`. -/
theorem pay1_eq (x o : Vec F S512x128 .f32) : k0_pay1 x o = fun i => logp21 (x i) (o i) := by
  unfold k0_pay1
  dsimp only
  rw [shapeCast_self, shapeCast_self]
  rfl

theorem hz : (![0, 0] : Fin 2 → Nat) = fun _ => 0 := funext fun a => by fin_cases a <;> rfl

/-- The one index of the (1, 1) array of the mean. -/
def o11 : S1x1.Idx := fun a => match a with | ⟨0, _⟩ => (0 : Fin 1) | ⟨1, _⟩ => (0 : Fin 1)

/-- Every index of that array is it. -/
theorem eq_o11 (i : S1x1.Idx) : i = o11 := by
  funext a
  match a with
  | ⟨0, _⟩ => exact Subsingleton.elim (α := Fin 1) _ _
  | ⟨1, _⟩ => exact Subsingleton.elim (α := Fin 1) _ _

section Body

variable (c : Dev nD) (i : grid0.Coords) (arg1 : Memref sig .tc .smem S1x1 .f32) (h1 : arg1.IsWhole)
  (arg2 : Memref sig .tc .vmem S512x128 .f32) (h2 : arg2.IsWhole) (arg3 : Memref sig .tc .vmem S512x128 .f32) (h3 : arg3.IsWhole)
  (arg4 : Memref sig .tc .vmem S512x128 .f32) (h4 : arg4.IsWhole) (arg5 : Memref sig .tc .vmem S512x128 .f32) (h5 : arg5.IsWhole)
  (arg6 : Memref sig .tc .vmem S512x128 .f32) (h6 : arg6.IsWhole) (arg7 : Memref sig .tc .vmem S512x128 .f32) (h7 : arg7.IsWhole)
  (arg8 : Memref sig .tc .vmem S512x128 .f32) (h8 : arg8.IsWhole) (arg9 : Memref sig .tc .vmem S512x128 .f32) (h9 : arg9.IsWhole)
  (arg10 : Memref sig .tc .vmem S512x128 .f32) (h10 : arg10.IsWhole)
  (x0 : Vec F S1x1 .f32) (x1 x2 x3 x4 x5 x6 : Vec F S512x128 .f32)

/-- The block of the first result the body leaves: `logp1` of the mean word and the blocks of windows 1 and 2. -/
theorem out7_eq : out0_A_7 c i arg1 h1 arg2 h2 arg3 h3 arg4 h4 arg5 h5 arg6 h6 arg7 h7 arg8 h8 arg9 h9 arg10 h10 x0 x1 x2 x3 x4 x5 x6
    = fun j => logp1 (x0 o11) (x1 j) (x2 j) := by
  unfold out0_A_7
  rw [View.read_writes_junk_eq_canon]
  show View.canon ([⟨Rect.unit ![0, 0] S512x128.size inb_S512x128_S512x128_0_0,
      k0_pay2
        (View.readAt (Elt F) arg1.view (Rect.unit (s := S1x1) ![0, 0] S1x1.size inb_S1x1_S1x1_0_0).toLoadRect (h1.unread x0) _)
        (View.readAt (Elt F) arg2.view (Rect.unit ![0, 0] S512x128.size inb_S512x128_S512x128_0_0).toLoadRect (h2.unread x1))
        (View.readAt (Elt F) arg3.view (Rect.unit ![0, 0] S512x128.size inb_S512x128_S512x128_0_0).toLoadRect (h3.unread x2))⟩] :
      List (View.Piece (Elt F) S512x128 .f32)) = _
  rw [View.canon_unit_zero hz, View.readAt_eq_ld, View.readAt_eq_ld, View.readAt_eq_ld, h1.read_unread, h2.read_unread,
    h3.read_unread, View.ld_unit_zero hz, View.ld_unit_zero hz, View.ld_unit_zero hz, pay2_eq, eq_o11 (Shape.Idx.first _)]

/-- The block of the second result: `logp20` of the blocks of windows 3 and 4. -/
theorem out8_eq : out0_A_8 c i arg1 h1 arg2 h2 arg3 h3 arg4 h4 arg5 h5 arg6 h6 arg7 h7 arg8 h8 arg9 h9 arg10 h10 x0 x1 x2 x3 x4 x5 x6
    = fun j => logp20 (x3 j) (x4 j) := by
  unfold out0_A_8
  rw [View.read_writes_junk_eq_canon]
  show View.canon ([⟨Rect.unit ![0, 0] S512x128.size inb_S512x128_S512x128_0_0,
      k0_pay3
        (View.readAt (Elt F) arg4.view (Rect.unit ![0, 0] S512x128.size inb_S512x128_S512x128_0_0).toLoadRect (h4.unread x3))
        (View.readAt (Elt F) arg5.view (Rect.unit ![0, 0] S512x128.size inb_S512x128_S512x128_0_0).toLoadRect (h5.unread x4))⟩] :
      List (View.Piece (Elt F) S512x128 .f32)) = _
  rw [View.canon_unit_zero hz, View.readAt_eq_ld, View.readAt_eq_ld, h4.read_unread, h5.read_unread,
    View.ld_unit_zero hz, View.ld_unit_zero hz, pay3_eq]

/-- The block of the third result: `logp21` of the blocks of windows 5 and 6. -/
theorem out9_eq : out0_A_9 c i arg1 h1 arg2 h2 arg3 h3 arg4 h4 arg5 h5 arg6 h6 arg7 h7 arg8 h8 arg9 h9 arg10 h10 x0 x1 x2 x3 x4 x5 x6
    = fun j => logp21 (x5 j) (x6 j) := by
  unfold out0_A_9
  rw [View.read_writes_junk_eq_canon]
  show View.canon ([⟨Rect.unit ![0, 0] S512x128.size inb_S512x128_S512x128_0_0,
      k0_pay1
        (View.readAt (Elt F) arg6.view (Rect.unit ![0, 0] S512x128.size inb_S512x128_S512x128_0_0).toLoadRect (h6.unread x5))
        (View.readAt (Elt F) arg7.view (Rect.unit ![0, 0] S512x128.size inb_S512x128_S512x128_0_0).toLoadRect (h7.unread x6))⟩] :
      List (View.Piece (Elt F) S512x128 .f32)) = _
  rw [View.canon_unit_zero hz, View.readAt_eq_ld, View.readAt_eq_ld, h6.read_unread, h7.read_unread,
    View.ld_unit_zero hz, View.ld_unit_zero hz, pay1_eq]

end Body

end Cert.Proof.Block

end
-- ==== Proof.Arrays.lean ====
/- Hand-written, untrusted: WHAT THE KERNEL'S RESULTS HOLD, at any float values. A grid point writes back its block of one
   whole-array function (`Block.logp1`, `logp20`, `logp21` entry by entry), and the two blocks tile the (1024, 128) array;
   the arrays the kernel reads and writes are reshapes of flat ones, so entry `i` of a flat result is that scalar function of
   entry `i` of the flat arguments (`run`). -/
module

public import proofs.«01_k».proof.Proof.Block

@[expose] public section

noncomputable section

namespace Cert.Proof.Arrays

open Cert.KernelIdeal Cert.KernelIdeal.Gen Idealize.ShloMosaic Idealize.ShloMosaic.TcCoe Idealize.SL.Sem
open Cert.Proof.Block

variable {F : FTy → Type} [FloatOps F] [Named F]
variable (m : (ℓ : Loc nD τ sig) → Buf (Elt F) ℓ) (ρ : Dev nD → PrngReg)

/-! ## The arrays the kernel writes -/

/-- The first result's (1024, 128) array: `logp1` of the mean and of the entries of its two inputs. -/
abbrev arr7 (c : Dev nD) : Vec F S1024x128 .f32 :=
  fun i => logp1 ((V m c main_v0 : Vec F S1x1 .f32) o11) ((V m c main_v1 : Vec F S1024x128 .f32) i) ((V m c main_v2 : Vec F S1024x128 .f32) i)

/-- The second's: `logp20` of the entries of its two inputs. -/
abbrev arr8 (c : Dev nD) : Vec F S1024x128 .f32 :=
  fun i => logp20 ((V m c main_v3 : Vec F S1024x128 .f32) i) ((V m c main_v4 : Vec F S1024x128 .f32) i)

/-- The third's: `logp21` of the entries of its two inputs. -/
abbrev arr9 (c : Dev nD) : Vec F S1024x128 .f32 :=
  fun i => logp21 ((V m c main_v5 : Vec F S1024x128 .f32) i) ((V m c main_v6 : Vec F S1024x128 .f32) i)

/-- The mean's block at any point is the (1, 1) array: its one word is the mean. -/
theorem iblk0_o11 (c : Dev nD) (t : Fin cfg0.N) :
    (iblk m c 0 t : Vec F S1x1 .f32) o11 = (V m c main_v0 : Vec F S1x1 .f32) o11 := by
  show (V m c main_v0 : Vec F S1x1 .f32) (((cfg0.win 0).blk t).view.emb o11) = _
  exact congrArg (V m c main_v0 : Vec F S1x1 .f32) (eq_o11 _)

/-- What point `t` writes back is block `t` of the whole array: the first result, -/
theorem flushed7 (c : Dev nD) (t : Fin cfg0.N) :
    (dats m 0 c).flushed 7 t = ((cfg0.win 7).blk t).view.read (Elt F) (arr7 m c) := by
  show (cfg0.win 7).cut (grid0.coords t) ((dats m 0 c).after 7 t) = _
  rw [after0_7]
  unfold outsAt0
  dsimp only
  rw [out7_eq, iblk0_o11]
  rfl

/-- the second, -/
theorem flushed8 (c : Dev nD) (t : Fin cfg0.N) :
    (dats m 0 c).flushed 8 t = ((cfg0.win 8).blk t).view.read (Elt F) (arr8 m c) := by
  show (cfg0.win 8).cut (grid0.coords t) ((dats m 0 c).after 8 t) = _
  rw [after0_8]
  unfold outsAt0
  dsimp only
  rw [out8_eq]
  rfl

/-- and the third. -/
theorem flushed9 (c : Dev nD) (t : Fin cfg0.N) :
    (dats m 0 c).flushed 9 t = ((cfg0.win 9).blk t).view.read (Elt F) (arr9 m c) := by
  show (cfg0.win 9).cut (grid0.coords t) ((dats m 0 c).after 9 t) = _
  rw [after0_9]
  unfold outsAt0
  dsimp only
  rw [out9_eq]
  rfl

/-! ## The two blocks tile the array -/

/-- An index of the first result's array is in point `t`'s block iff its row is one of the 512 from `512 t`. -/
theorem mem_blk7 (t : Fin cfg0.N) (i : S1024x128.Idx) :
    i ∈ ((cfg0.win 7).blk t).view.set ↔ t.val * 512 ≤ (i 0 : Nat) ∧ (i 0 : Nat) < t.val * 512 + 512 := by
  show i ∈ ((View.whole main_v7_0).slice (win0_7.rect t)).set ↔ _
  rw [View.set_slice_whole, Rect.mem_set_unit]
  have h1 : (i 1 : Nat) < 128 := (i 1).isLt
  have e : win0_7.index t 0 * win0_7.size 0 = t.val * 512 ∧ win0_7.xsize (grid0.coords t) 0 = 512
      ∧ win0_7.index t 1 * win0_7.size 1 = 0 ∧ win0_7.xsize (grid0.coords t) 1 = 128 := by
    rcases fin_N0 t with rfl | rfl <;> decide +kernel
  refine ⟨fun h => ?_, fun h a => ?_⟩
  · have h0 : win0_7.index t 0 * win0_7.size 0 ≤ (i 0 : Nat)
        ∧ (i 0 : Nat) < win0_7.index t 0 * win0_7.size 0 + win0_7.xsize (grid0.coords t) 0 := h 0
    rw [e.1, e.2.1] at h0; exact h0
  · match a with
    | ⟨0, _⟩ => show win0_7.index t 0 * win0_7.size 0 ≤ (i 0 : Nat)
                  ∧ (i 0 : Nat) < win0_7.index t 0 * win0_7.size 0 + win0_7.xsize (grid0.coords t) 0
                rw [e.1, e.2.1]; exact h
    | ⟨1, _⟩ => show win0_7.index t 1 * win0_7.size 1 ≤ (i 1 : Nat)
                  ∧ (i 1 : Nat) < win0_7.index t 1 * win0_7.size 1 + win0_7.xsize (grid0.coords t) 1
                rw [e.2.2.1, e.2.2.2]; omega

/-- Row `r` of a result array is in the block of point `r / 512`: the first result, -/
theorem cover7 (i : S1024x128.Idx) :
    ∃ t : Fin cfg0.N, (cfg0.win 7).flush t = true ∧ i ∈ ((cfg0.win 7).blk t).view.set := by
  have h0 : (i 0 : Nat) < 1024 := (i 0).isLt
  have hN : cfg0.N = 2 := N_0
  have ht : (i 0 : Nat) / 512 < cfg0.N := by omega
  refine ⟨⟨(i 0 : Nat) / 512, ht⟩, flush0_7 _, ?_⟩
  rw [mem_blk7]
  dsimp only
  omega

/-- the second, whose window has the same index map, -/
theorem cover8 (i : S1024x128.Idx) :
    ∃ t : Fin cfg0.N, (cfg0.win 8).flush t = true ∧ i ∈ ((cfg0.win 8).blk t).view.set := by
  obtain ⟨t, -, h⟩ := cover7 i
  exact ⟨t, flush0_8 t, h⟩

/-- and the third. -/
theorem cover9 (i : S1024x128.Idx) :
    ∃ t : Fin cfg0.N, (cfg0.win 9).flush t = true ∧ i ∈ ((cfg0.win 9).blk t).view.set := by
  obtain ⟨t, -, h⟩ := cover7 i
  exact ⟨t, flush0_9 t, h⟩

/-- So the arrays end holding the whole-array functions. -/
theorem final7 (c : Dev nD) : (dats m 0 c).arrAt 7 cfg0.N = arr7 m c :=
  (dats m 0 c).arrAt_eq_of_cover 7 (arr7 m c) (fun t _ => flushed7 m c t) cover7
theorem final8 (c : Dev nD) : (dats m 0 c).arrAt 8 cfg0.N = arr8 m c :=
  (dats m 0 c).arrAt_eq_of_cover 8 (arr8 m c) (fun t _ => flushed8 m c t) cover8
theorem final9 (c : Dev nD) : (dats m 0 c).arrAt 9 cfg0.N = arr9 m c :=
  (dats m 0 c).arrAt_eq_of_cover 9 (arr9 m c) (fun t _ => flushed9 m c t) cover9

/-! ## The reshapes before and after -/

/-- The arrays as the kernel finds them are reshapes of the arguments. -/
theorem entry (c : Dev nD) :
    (V m c main_v0 = shapeCast S1x1 (m ((c : Thread nD τ).loc main_arg11) : Vec F S1 .f32) shapeCasts_S1_S1x1
      ∧ V m c main_v1 = shapeCast S1024x128 (m ((c : Thread nD τ).loc main_arg1) : Vec F S131072 .f32) shapeCasts_S131072_S1024x128
      ∧ V m c main_v2 = shapeCast S1024x128 (m ((c : Thread nD τ).loc main_arg2) : Vec F S131072 .f32) shapeCasts_S131072_S1024x128)
      ∧ (V m c main_v3 = shapeCast S1024x128 (m ((c : Thread nD τ).loc main_arg5) : Vec F S131072 .f32) shapeCasts_S131072_S1024x128
      ∧ V m c main_v4 = shapeCast S1024x128 (m ((c : Thread nD τ).loc main_arg6) : Vec F S131072 .f32) shapeCasts_S131072_S1024x128)
      ∧ V m c main_v5 = shapeCast S1024x128 (m ((c : Thread nD τ).loc main_arg9) : Vec F S131072 .f32) shapeCasts_S131072_S1024x128
      ∧ V m c main_v6 = shapeCast S1024x128 (m ((c : Thread nD τ).loc main_arg10) : Vec F S131072 .f32) shapeCasts_S131072_S1024x128 := by
  refine ⟨⟨?_, ?_, ?_⟩, ⟨?_, ?_⟩, ?_, ?_⟩ <;>
    simp [V, V0, hostOps0, StableHlo.reshape_result', StableHlo.reshape_result_ne'] <;> rfl

/-- The flat results are reshapes of the arrays the kernel leaves. -/
theorem tail (c : Dev nD) :
    Pipeline.afterTail₀ cfgs (dats m) 0 (V0 m) [hostOps1] c main_v8 = shapeCast S131072 (arr7 m c) shapeCasts_S1024x128_S131072
    ∧ Pipeline.afterTail₀ cfgs (dats m) 0 (V0 m) [hostOps1] c main_v9 = shapeCast S131072 (arr8 m c) shapeCasts_S1024x128_S131072
    ∧ Pipeline.afterTail₀ cfgs (dats m) 0 (V0 m) [hostOps1] c main_v10 = shapeCast S131072 (arr9 m c) shapeCasts_S1024x128_S131072 := by
  have h7 := Pipeline.withArrays_arr spec0 winFacts0.arr_inj c (V0 m c) (fun w => (dats m 0 c).arrAt w cfg0.N) 7
  have h8 := Pipeline.withArrays_arr spec0 winFacts0.arr_inj c (V0 m c) (fun w => (dats m 0 c).arrAt w cfg0.N) 8
  have h9 := Pipeline.withArrays_arr spec0 winFacts0.arr_inj c (V0 m c) (fun w => (dats m 0 c).arrAt w cfg0.N) 9
  rw [final7] at h7
  rw [final8] at h8
  rw [final9] at h9
  unfold Pipeline.afterTail₀
  refine ⟨?_, ?_, ?_⟩ <;>
    simp [hostOps1, StableHlo.reshape_result', StableHlo.reshape_result_ne']
  · exact congrArg (fun x : Vec F S1024x128 .f32 => shapeCast S131072 x shapeCasts_S1024x128_S131072) h7
  · exact congrArg (fun x : Vec F S1024x128 .f32 => shapeCast S131072 x shapeCasts_S1024x128_S131072) h8
  · exact congrArg (fun x : Vec F S1024x128 .f32 => shapeCast S131072 x shapeCasts_S1024x128_S131072) h9

/-! ## The flat results -/

/-- The one index of the mean argument. -/
def o1 : S1.Idx := fun a => match a with | ⟨0, _⟩ => (0 : Fin 1)

/-- The first result: `logp1` of the mean and of the entries of arguments 1 and 2. -/
def res1 (μ : Vec F S1 .f32) (x o : Vec F S131072 .f32) : Vec F S131072 .f32 :=
  fun i => logp1 (μ o1) (x i) (o i)

/-- The second: `logp20` of the entries of arguments 5 and 6. -/
def res20 (x o : Vec F S131072 .f32) : Vec F S131072 .f32 := fun i => logp20 (x i) (o i)

/-- The third: `logp21` of the entries of arguments 9 and 10. -/
def res21 (x o : Vec F S131072 .f32) : Vec F S131072 .f32 := fun i => logp21 (x i) (o i)

/-- A function of two arrays entry by entry, taken of their reshapes and reshaped back, is taken of the arrays. -/
theorem reshape_pointwise (f : F .f32 → F .f32 → F .f32) (x o : Vec F S131072 .f32) :
    shapeCast S131072 (fun i => f (shapeCast S1024x128 x shapeCasts_S131072_S1024x128 i)
      (shapeCast S1024x128 o shapeCasts_S131072_S1024x128 i) : Vec F S1024x128 .f32) shapeCasts_S1024x128_S131072
    = fun i => f (x i) (o i) := by
  funext i
  show f (shapeCast S131072 (shapeCast S1024x128 x shapeCasts_S131072_S1024x128) shapeCasts_S1024x128_S131072 i)
    (shapeCast S131072 (shapeCast S1024x128 o shapeCasts_S131072_S1024x128) shapeCasts_S1024x128_S131072 i) = _
  rw [shapeCast_shapeCast, shapeCast_shapeCast]

/-- The mean's one word is the argument's. -/
theorem mean_word (μ : Vec F S1 .f32) : shapeCast S1x1 μ shapeCasts_S1_S1x1 o11 = μ o1 :=
  congrArg μ (funext fun a => by match a with | ⟨0, _⟩ => exact Subsingleton.elim (α := Fin 1) _ _)

/-- The three results after the run, as functions of the arguments. -/
theorem results (c : Dev nD) :
    Pipeline.afterTail₀ cfgs (dats m) 0 (V0 m) [hostOps1] c main_v8 = res1 (m ((c : Thread nD τ).loc main_arg11))
        (m ((c : Thread nD τ).loc main_arg1)) (m ((c : Thread nD τ).loc main_arg2))
    ∧ Pipeline.afterTail₀ cfgs (dats m) 0 (V0 m) [hostOps1] c main_v9
      = res20 (m ((c : Thread nD τ).loc main_arg5)) (m ((c : Thread nD τ).loc main_arg6))
    ∧ Pipeline.afterTail₀ cfgs (dats m) 0 (V0 m) [hostOps1] c main_v10
      = res21 (m ((c : Thread nD τ).loc main_arg9)) (m ((c : Thread nD τ).loc main_arg10)) := by
  obtain ⟨⟨e0, e1, e2⟩, ⟨e3, e4⟩, e5, e6⟩ := entry m c
  obtain ⟨t7, t8, t9⟩ := tail m c
  refine ⟨t7.trans ?_, t8.trans ?_, t9.trans ?_⟩
  · unfold arr7
    rw [e0, e1, e2, mean_word]
    exact reshape_pointwise (logp1 _) _ _
  · unfold arr8
    rw [e3, e4]
    exact reshape_pointwise logp20 _ _
  · unfold arr9
    rw [e5, e6]
    exact reshape_pointwise logp21 _ _

/-- The run: every result at its function of the arguments, every argument unchanged. -/
theorem run : θ_run defs (onTc (τ := τ) (main (F := F))) ⟨m, fun _ => 0, ρ⟩ (fun r => ∀ c : Dev nD,
      r.2.mem ((c.tc : Thread nD τ).loc main_v8) = res1 (m ((c.tc : Thread nD τ).loc main_arg11))
        (m ((c.tc : Thread nD τ).loc main_arg1)) (m ((c.tc : Thread nD τ).loc main_arg2))
      ∧ r.2.mem ((c.tc : Thread nD τ).loc main_v9)
        = res20 (m ((c.tc : Thread nD τ).loc main_arg5)) (m ((c.tc : Thread nD τ).loc main_arg6))
      ∧ r.2.mem ((c.tc : Thread nD τ).loc main_v10)
        = res21 (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
      ⟨((h.1 c).2 main_v8 (Pipeline.mem_restRefs_of main_v8 (by decide) (by decide))).trans (results m c).1,
        ((h.1 c).2 main_v9 (Pipeline.mem_restRefs_of main_v9 (by decide) (by decide))).trans (results m c).2.1,
        ((h.1 c).2 main_v10 (Pipeline.mem_restRefs_of main_v10 (by decide) (by decide))).trans (results m c).2.2, h.2 c⟩)
    (θ_run_and (run_main m ρ) (unchanged m ρ))

end Cert.Proof.Arrays

end
-- ==== Proof.Lookup.lean ====
/- Hand-written, untrusted: THE REFERENCE'S TABLE LOOKUP. The log probability of a categorical of two equal weights is a lookup
   in a table of two equal entries: an index below zero gets 2 added, an index in [0, 1] reads the table, and one outside is
   masked. For indices from -2 to 1 the mask never strikes, and what is read is the entry both indices hold. Also here: what
   the claim's precondition says of the five index arguments. -/
module

public import proofs.«01_k».proof.Proof.Gen.ReferenceIdeal
public import proofs.«01_k».proof.Proof.Gen.Pre_names_entries
public import Idealize.ShloMosaic.Lib.ReduceAll
public import Idealize.ShloMosaic.PureOps.Ideal

@[expose] public section

noncomputable section

namespace Cert.Proof.Lookup

open Cert.ReferenceIdeal Cert.ReferenceIdeal.Gen Idealize.ShloMosaic

/-- The word `w` lies from `lo` to `hi`, read signed. -/
abbrev Within (lo hi : Int) (w : BitVec 32) : Prop := lo ≤ w.toInt ∧ w.toInt ≤ hi

/-- An index below zero with 2 added, another as it is. -/
def wrap (w : BitVec 32) : BitVec 32 := Scalar.select (IntOp.cmpi .slt w 0#32) (IntOp.addi w 2#32) w

/-- A word from -2 to 1 is one of four. -/
theorem four_words {w : BitVec 32} (h : Within (-2) 1 w) : w = 4294967294#32 ∨ w = 4294967295#32 ∨ w = 0#32 ∨ w = 1#32 := by
  obtain ⟨h1, h2⟩ := h
  have e : w = BitVec.ofInt 32 w.toInt := (BitVec.ofInt_toInt).symm
  have c : w.toInt = -2 ∨ w.toInt = -1 ∨ w.toInt = 0 ∨ w.toInt = 1 := by omega
  rcases c with c | c | c | c <;> rw [c] at e <;> simp [e]

/-- The wrapped index of a word from -2 to 1 passes the reference's test for [0, 1]. -/
theorem wrap_in {w : BitVec 32} (h : Within (-2) 1 w) :
    IntOp.andi (IntOp.cmpi .sge (wrap w) 0#32) (IntOp.cmpi .sle (wrap w) 1#32) = 1#1 := by
  rcases four_words h with e | e | e | e <;> rw [e] <;> decide

/-- A label from -1 to 2, less 1, is an index from -2 to 1. -/
theorem label_index {w : BitVec 32} (h : Within (-1) 2 w) : Within (-2) 1 (IntOp.subi w 1#32) := by
  obtain ⟨h1, h2⟩ := h
  have e : w = BitVec.ofInt 32 w.toInt := (BitVec.ofInt_toInt).symm
  have c : w.toInt = -1 ∨ w.toInt = 0 ∨ w.toInt = 1 ∨ w.toInt = 2 := by omega
  rcases c with c | c | c | c <;> rw [c] at e <;> rw [e] <;> decide

/-- The reference's column of wrapped indices. -/
def wrapped (k : IVec S131072 32) : IVec S131072x1 32 :=
  broadcastInDim S131072x1 ![0] bcast_S131072_S131072x1_0
    (select (cmpi .slt k (broadcastInDim S131072 ![] bcast_S_S131072 (constantI S_ 32 0#32)))
      (addi k (broadcastInDim S131072 ![] bcast_S_S131072 (constantI S_ 32 2#32))) k)

/-- The reference's masked lookup of the indices `k` in the table `T`. -/
def lookup (k : IVec S131072 32) (T : FVec Ideal S2 .f32) : FVec Ideal S131072 .f32 :=
  select (Host.reduce IntOp.andi
      (andi (cmpi .sge (wrapped k) (broadcastInDim S131072x1 ![] bcast_S_S131072x1 (constantI S_ 32 0#32)))
        (cmpi .sle (wrapped k) (broadcastInDim S131072x1 ![0, 1] bcast_S1x1_S131072x1_0_1
          (broadcastInDim S1x1 ![1] bcast_S1_S1x1_1 (constantI S1 32 1#32)))))
      (constantI S_ 1 1#1) reducesTo_S131072x1_S131072_d1 h_S_)
    (Host.gather gather_S2_S131072x1_S131072_n_0_n_n_0_1_1 T (wrapped k))
    (broadcastInDim S131072 ![] bcast_S_S131072 (constant S_ .f32 0x7FC00000#32))

/-- A masked choice where the mask is 1. -/
theorem select_one {s : Shape} {α : Type} (c : IVec s 1) (a b : s.Idx → α) (i : s.Idx) (h : c i = 1#1) :
    select c a b i = a i := by
  unfold select
  rw [h]
  rfl

/-- The lookup of indices from -2 to 1 in a table whose entries are all `v` is `v`. -/
theorem lookup_eq (k : IVec S131072 32) (T : FVec Ideal S2 .f32) (v : Ideal .f32) (hk : ∀ i, Within (-2) 1 (k i))
    (hT : ∀ i, T i = v) (i : S131072.Idx) : lookup k T i = v := by
  have hm := Host.reduce_andi_one
    (andi (cmpi .sge (wrapped k) (broadcastInDim S131072x1 ![] bcast_S_S131072x1 (constantI S_ 32 0#32)))
        (cmpi .sle (wrapped k) (broadcastInDim S131072x1 ![0, 1] bcast_S1x1_S131072x1_0_1
          (broadcastInDim S1x1 ![1] bcast_S1_S1x1_1 (constantI S1 32 1#32)))))
    (constantI S_ 1 1#1) reducesTo_S131072x1_S131072_d1 h_S_ i rfl (fun j => wrap_in (hk _))
  exact (select_one _ _ _ i hm).trans (hT _)

/-! ## The precondition -/

/-- A test of all the words of an array for lying from `lo` to `hi`, read back. -/
theorem all_within {s u t : Shape} {axes : List (Fin s.rank)} [Subsingleton t.Idx] (x : IVec s 32) (lo hi : BitVec 32)
    (b : (⟨0, ![]⟩ : Shape).BroadcastsInDim s (![] : Fin 0 → Fin s.rank)) (h : s.ReducesTo axes t) (hu : 0 < u.numel) (j : t.Idx)
    (e : Host.reduce IntOp.andi (andi (cmpi .sge x (broadcastInDim s ![] b (constantI ⟨0, ![]⟩ 32 lo)))
      (cmpi .sle x (broadcastInDim s ![] b (constantI ⟨0, ![]⟩ 32 hi)))) (constantI u 1 1#1) h hu j = 1#1) (i : s.Idx) :
    Within lo.toInt hi.toInt (x i) := by
  obtain ⟨h1, h2⟩ := IntOp.andi_eq_one.1 (Host.reduce_andi_all _ _ h hu j e i)
  exact ⟨IntOp.cmpi_sge.1 h1, IntOp.cmpi_sle.1 h2⟩

/-- The precondition: the three labels lie from -1 to 2, the two indices from -2 to 1. -/
theorem pre_within (k0 : IVec Cert.Pre_names_entries.S131072 32) (x1 x2 : FVec Ideal Cert.Pre_names_entries.S131072 .f32)
    (k3 k4 : IVec Cert.Pre_names_entries.S131072 32) (x5 x6 : FVec Ideal Cert.Pre_names_entries.S131072 .f32)
    (k7 k8 : IVec Cert.Pre_names_entries.S131072 32) (x9 x10 : FVec Ideal Cert.Pre_names_entries.S131072 .f32)
    (x11 : FVec Ideal Cert.Pre_names_entries.S1 .f32)
    (h : Cert.Pre_names_entries.fn (F := Ideal) k0 x1 x2 k3 k4 x5 x6 k7 k8 x9 x10 x11 = fun _ => 1#1) :
    (∀ i, Within (-1) 2 (k0 i)) ∧ (∀ i, Within (-1) 2 (k3 i)) ∧ (∀ i, Within (-2) 1 (k4 i))
      ∧ (∀ i, Within (-1) 2 (k7 i)) ∧ ∀ i, Within (-2) 1 (k8 i) := by
  have : Subsingleton Cert.Pre_names_entries.S_.Idx := ⟨fun a b => funext fun d => d.elim0⟩
  have e := congrFun h (fun d : Fin 0 => d.elim0)
  obtain ⟨e, e8⟩ := IntOp.andi_eq_one.1 e
  obtain ⟨e, e7⟩ := IntOp.andi_eq_one.1 e
  obtain ⟨e, e4⟩ := IntOp.andi_eq_one.1 e
  obtain ⟨e0, e3⟩ := IntOp.andi_eq_one.1 e
  exact ⟨fun i => all_within k0 4294967295#32 2#32 _ _ _ _ e0 i, fun i => all_within k3 4294967295#32 2#32 _ _ _ _ e3 i,
    fun i => all_within k4 4294967294#32 1#32 _ _ _ _ e4 i, fun i => all_within k7 4294967295#32 2#32 _ _ _ _ e7 i,
    fun i => all_within k8 4294967294#32 1#32 _ _ _ _ e8 i⟩

end Cert.Proof.Lookup

end
-- ==== Proof.Consts.lean ====
/- Hand-written, untrusted: THE FLOAT CONSTANTS both programs state, as the extended reals they denote, and the four constants
   the kernel's idealization names. -/
module

public import proofs.«01_k».proof.Defs
public import Idealize.ShloMosaic.PureOps.Ideal

@[expose] public section

noncomputable section

namespace Cert.Proof.Consts

open Idealize.ShloMosaic

theorem bits_one : Ideal.ofBits .f32 0x3F800000#32 = ((1 : ℝ) : EReal) := by
  simp [Ideal.ofBits, Ideal.ieee, -EReal.coe_mul] <;> norm_num

theorem bits_ten : Ideal.ofBits .f32 0x41200000#32 = ((10 : ℝ) : EReal) := by
  simp [Ideal.ofBits, Ideal.ieee, -EReal.coe_mul] <;> norm_num

theorem bits_half : Ideal.ofBits .f32 0x3F000000#32 = ((1 / 2 : ℝ) : EReal) := by
  simp [Ideal.ofBits, Ideal.ieee, -EReal.coe_mul] <;> norm_num

theorem bits_neg_half : Ideal.ofBits .f32 0xBF000000#32 = ((-(1 / 2) : ℝ) : EReal) := by
  simp [Ideal.ofBits, Ideal.ieee, -EReal.coe_mul] <;> norm_num

theorem bits_two : Ideal.ofBits .f32 0x40000000#32 = ((2 : ℝ) : EReal) := by
  simp [Ideal.ofBits, Ideal.ieee, -EReal.coe_mul] <;> norm_num

theorem bits_neg_one : Ideal.ofBits .f32 0xBF800000#32 = ((-1 : ℝ) : EReal) := by
  simp [Ideal.ofBits, Ideal.ieee, -EReal.coe_mul] <;> norm_num

theorem bits_three_halves : Ideal.ofBits .f32 0x3FC00000#32 = ((3 / 2 : ℝ) : EReal) := by
  simp [Ideal.ofBits, Ideal.ieee, -EReal.coe_mul] <;> norm_num

theorem bits_fifty : Ideal.ofBits .f32 0x42480000#32 = ((50 : ℝ) : EReal) := by
  simp [Ideal.ofBits, Ideal.ieee, -EReal.coe_mul] <;> norm_num

/-- The first result's additive constant, `log (5 / (2 π))`, -/
theorem named_c1 : Named.named (F := Ideal) Cert.KernelIdeal.κ "c_1" (φ := .f32) 0xBE69EBF4#32
    = ((Real.log ((5 / 2) * Real.pi⁻¹) : ℝ) : EReal) :=
  IdealRules.named_const.ideal_named_scalar _ _ _ _ rfl

/-- the second's, `log (5 / (4 π))`, -/
theorem named_c20 : Named.named (F := Ideal) Cert.KernelIdeal.κ "c_20" (φ := .f32) 0xBF6BED15#32
    = ((Real.log ((5 / 4) * Real.pi⁻¹) : ℝ) : EReal) :=
  IdealRules.named_const.ideal_named_scalar _ _ _ _ rfl

/-- the third's, `log (5 / (6 π))`, -/
theorem named_c21 : Named.named (F := Ideal) Cert.KernelIdeal.κ "c_21" (φ := .f32) 0xBFA9DCD2#32
    = ((Real.log ((5 / 6) * Real.pi⁻¹) : ℝ) : EReal) :=
  IdealRules.named_const.ideal_named_scalar _ _ _ _ rfl

/-- and the third's factor of the squared distance to the mean, 2/9. -/
theorem named_k21 : Named.named (F := Ideal) Cert.KernelIdeal.κ "k_21" (φ := .f32) 0x3E638E39#32 = ((2 / 9 : ℝ) : EReal) :=
  IdealRules.named_const.ideal_named_scalar _ _ _ _ rfl

end Cert.Proof.Consts

end
-- ==== Proof.Equation.lean ====
/- Hand-written, untrusted: THE EQUATION of the two log densities, over the extended reals. The reference adds the log of a
   mixture weight and two normal log densities, each with its own quotient, its own log of the standard deviation and its own
   half log of 2 π; the kernel subtracts two multiples of squares from one constant. A square is a real or `⊤`; at `⊤` both
   sides are `⊥`, and at reals it is one ring identity, so no input has to be finite. -/
module

public import Idealize.ShloMosaic.PureOps.Ideal
public import Mathlib.Analysis.SpecialFunctions.Trigonometric.Inverse

@[expose] public section

noncomputable section

namespace Cert.Proof.Equation

open Idealize.ShloMosaic

/-- The normal log density at `x` of mean `μ` and standard deviation `σ`, as the reference computes it. -/
def dens (x μ σ : EReal) : EReal :=
  (((-(1 / 2) : ℝ) : EReal) * (Ideal.div (x - μ) σ * Ideal.div (x - μ) σ) - Ideal.log σ)
    - ((1 / 2 : ℝ) : EReal) * Ideal.log (((2 : ℝ) : EReal) * Ideal.acos ((-1 : ℝ) : EReal))

/-- The kernel's formula at a difference `d` from the mean and a difference `e` of the observation. -/
def quad (C k : ℝ) (d e : EReal) : EReal := ((C : EReal) - (k : EReal) * (d * d)) - ((50 : ℝ) : EReal) * (e * e)

/-- A square of an extended real is `⊤` or a real. -/
theorem sq_cases (d : EReal) : d * d = ⊤ ∨ ∃ r : ℝ, d * d = (r : EReal) := by
  induction d with
  | bot => exact Or.inl EReal.bot_mul_bot
  | top => exact Or.inl EReal.top_mul_top
  | coe r => exact Or.inr ⟨r * r, (EReal.coe_mul r r).symm⟩

/-- The reference's half log of 2 π: the inverse cosine of -1 is π. -/
theorem half_log_two_pi : ((1 / 2 : ℝ) : EReal) * Ideal.log (((2 : ℝ) : EReal) * Ideal.acos ((-1 : ℝ) : EReal))
    = ((1 / 2 * Real.log (2 * Real.pi) : ℝ) : EReal) := by
  have h : ¬ (2 * Real.pi ≤ 0) := by have := Real.pi_pos; linarith
  rw [Ideal.acos_coe, if_pos (by norm_num), Real.arccos_neg_one, ← EReal.coe_mul, Ideal.log_coe, if_neg h, ← EReal.coe_mul]

/-- A positive standard deviation turns the reference's squared quotient into a multiple of the squared difference. -/
theorem dens_eq (x μ : EReal) (σ : ℝ) (hσ : 0 < σ) : dens x μ (σ : EReal)
    = (((-(1 / 2) : ℝ) : EReal) * ((x - μ) * (x - μ) * ((1 / σ * (1 / σ) : ℝ) : EReal)) - ((Real.log σ : ℝ) : EReal))
      - ((1 / 2 * Real.log (2 * Real.pi) : ℝ) : EReal) := by
  unfold dens
  rw [half_log_two_pi, Ideal.div_coe hσ.ne', Ideal.log_coe, if_neg hσ.not_ge, mul_mul_mul_comm, ← EReal.coe_mul]

/-- The sum of a weight's log and the two log densities is the kernel's formula, when its constants are the ones collected
    from the two densities. -/
theorem sum_eq (x μ o : EReal) (L σ τ C k : ℝ) (hσ : 0 < σ) (hτ : 0 < τ) (hk : k = 1 / 2 * (1 / σ * (1 / σ)))
    (h50 : (50 : ℝ) = 1 / 2 * (1 / τ * (1 / τ)))
    (hC : C = L - Real.log σ - Real.log τ - Real.log (2 * Real.pi)) :
    ((L : EReal) + dens x μ (σ : EReal)) + dens o x (τ : EReal) = quad C k (x - μ) (o - x) := by
  have hs : 0 < 1 / σ * (1 / σ) := by positivity
  have ht : 0 < 1 / τ * (1 / τ) := by positivity
  have hk0 : 0 < k := by rw [hk]; positivity
  rw [dens_eq x μ σ hσ, dens_eq o x τ hτ]
  unfold quad
  rcases sq_cases (x - μ) with h | ⟨r, h⟩ <;> rcases sq_cases (o - x) with g | ⟨q, g⟩ <;> rw [h, g]
  · rw [EReal.top_mul_coe_of_pos hs, EReal.coe_mul_top_of_neg (by norm_num), EReal.coe_mul_top_of_pos hk0]
    simp
  · rw [EReal.top_mul_coe_of_pos hs, EReal.coe_mul_top_of_neg (by norm_num), EReal.coe_mul_top_of_pos hk0]
    simp
  · rw [EReal.top_mul_coe_of_pos ht, EReal.coe_mul_top_of_neg (by norm_num),
      EReal.coe_mul_top_of_pos (show (0 : ℝ) < 50 by norm_num)]
    simp
  · simp only [← EReal.coe_mul, ← EReal.coe_sub, ← EReal.coe_add]
    rw [EReal.coe_eq_coe_iff, hC, hk, h50]
    ring

/-- The collected constant: `2 π` of the two half logs, the tenth of the observation's standard deviation, and the product
    `w / σ` of weight and standard deviation. -/
theorem const_eq (w σ q : ℝ) (hw : 0 < w) (hσ : 0 < σ) (hq : q = 5 * (w / σ)) :
    Real.log (q * Real.pi⁻¹) = Real.log w - Real.log σ - Real.log (1 / 10) - Real.log (2 * Real.pi) := by
  have hp := Real.pi_pos
  have h : q * Real.pi⁻¹ = w / σ / (1 / 10) / (2 * Real.pi) := by rw [hq]; field_simp; norm_num
  rw [h, Real.log_div (by positivity) (by positivity), Real.log_div (by positivity) (by positivity),
    Real.log_div hw.ne' hσ.ne']

/-- The first result: weight 1/2, standard deviation 1. -/
theorem first (x μ o : EReal) :
    (((Real.log (1 / 2) : ℝ) : EReal) + dens x μ ((1 : ℝ) : EReal)) + dens o x ((1 / 10 : ℝ) : EReal)
      = quad (Real.log ((5 / 2) * Real.pi⁻¹)) (1 / 2) (x - μ) (o - x) :=
  sum_eq x μ o _ _ _ _ _ (by norm_num) (by norm_num) (by norm_num) (by norm_num)
    (const_eq (1 / 2) 1 _ (by norm_num) (by norm_num) (by norm_num))

/-- The logs of two weights 1/2 add to the log of 1/4. -/
theorem log_quarter : ((Real.log (1 / 2) : ℝ) : EReal) + ((Real.log (1 / 2) : ℝ) : EReal) = ((Real.log (1 / 4) : ℝ) : EReal) := by
  rw [← EReal.coe_add, ← Real.log_mul (by norm_num) (by norm_num)]
  norm_num

/-- The second result: weights 1/2 and 1/2, standard deviation 1. -/
theorem second (x μ o : EReal) :
    ((((Real.log (1 / 2) : ℝ) : EReal) + ((Real.log (1 / 2) : ℝ) : EReal)) + dens x μ ((1 : ℝ) : EReal))
        + dens o x ((1 / 10 : ℝ) : EReal)
      = quad (Real.log ((5 / 4) * Real.pi⁻¹)) (1 / 2) (x - μ) (o - x) := by
  rw [log_quarter]
  exact sum_eq x μ o _ _ _ _ _ (by norm_num) (by norm_num) (by norm_num) (by norm_num)
    (const_eq (1 / 4) 1 _ (by norm_num) (by norm_num) (by norm_num))

/-- The third result: weights 1/2 and 1/2, standard deviation 3/2. -/
theorem third (x μ o : EReal) :
    ((((Real.log (1 / 2) : ℝ) : EReal) + ((Real.log (1 / 2) : ℝ) : EReal)) + dens x μ ((3 / 2 : ℝ) : EReal))
        + dens o x ((1 / 10 : ℝ) : EReal)
      = quad (Real.log ((5 / 6) * Real.pi⁻¹)) (2 / 9) (x - μ) (o - x) := by
  rw [log_quarter]
  exact sum_eq x μ o _ _ _ _ _ (by norm_num) (by norm_num) (by norm_num) (by norm_num)
    (const_eq (1 / 4) (3 / 2) _ (by norm_num) (by norm_num) (by norm_num))

end Cert.Proof.Equation

end
-- ==== Proof.RefValue.lean ====
/- Hand-written, untrusted: WHAT THE REFERENCE COMPUTES. Each of its three results, as a function of the argument arrays
   (`ref1`, `ref20`, `ref21`, in the reference's own operations), and at one entry: the log of the mixture weights' table
   entries plus two normal log densities (`Equation.dens`), where the indices stay in the table's range. -/
module

public import proofs.«01_k».proof.Proof.Gen.ReferenceIdeal.Run
public import proofs.«01_k».proof.Proof.Lookup
public import proofs.«01_k».proof.Proof.Consts
public import proofs.«01_k».proof.Proof.Equation

@[expose] public section

noncomputable section

namespace Cert.Proof.RefValue

open Cert.ReferenceIdeal Cert.ReferenceIdeal.Gen Idealize.ShloMosaic Idealize.ShloMosaic.TcCoe Idealize.SL.Sem
open Cert.Proof.Lookup Cert.Proof.Consts Cert.Proof.Equation

/-- A scalar of the host at every entry of a flat array. -/
def spread (σ : FVec Ideal S_ .f32) : FVec Ideal S131072 .f32 := broadcastInDim S131072 ![] bcast_S_S131072 σ

/-- The normal log density of `x`, mean `μ`, standard deviation `σ`, in the reference's operations. -/
def normal (x μ : FVec Ideal S131072 .f32) (σ : FVec Ideal S_ .f32) : FVec Ideal S131072 .f32 :=
  subf (subf (mulf (spread (constant S_ .f32 0xBF000000#32))
      (mulf (Host.divf (subf x μ) (spread σ)) (Host.divf (subf x μ) (spread σ)))) (spread (Host.log σ)))
    (spread (mulf (constant S_ .f32 0x3F000000#32)
      (Host.log (mulf (constant S_ .f32 0x40000000#32) (Host.acos (constant S_ .f32 0xBF800000#32))))))

/-- At an entry it is `dens` there. -/
theorem normal_at (x μ : FVec Ideal S131072 .f32) (σ : FVec Ideal S_ .f32) (s : EReal) (hs : ∀ j, σ j = s) (i : S131072.Idx) :
    normal x μ σ i = dens (x i) (μ i) s := by
  have e : σ = fun _ => s := funext hs
  subst e
  unfold dens
  rw [← bits_neg_half, ← bits_half, ← bits_two, ← bits_neg_one]
  rfl

/-- The reference's standard deviation of an observation, 1/10. -/
def tenth : FVec Ideal S_ .f32 := Host.divf (constant S_ .f32 0x3F800000#32) (constant S_ .f32 0x41200000#32)

theorem tenth_at (j : S_.Idx) : tenth j = ((1 / 10 : ℝ) : EReal) := by
  have h : tenth j = Ideal.div (Ideal.ofBits .f32 0x3F800000#32) (Ideal.ofBits .f32 0x41200000#32) := rfl
  rw [h, bits_one, bits_ten, Ideal.div_coe (by norm_num), ← EReal.coe_mul, one_mul]

/-- The reference's table of the two weights' logs, -/
def table : FVec Ideal S2 .f32 := Host.log (constant S2 .f32 0x3F000000#32)

/-- log 1/2 at both indices. -/
theorem table_at (j : S2.Idx) : table j = ((Real.log (1 / 2) : ℝ) : EReal) := by
  have h : table j = Ideal.log (Ideal.ofBits .f32 0x3F000000#32) := rfl
  rw [h, bits_half, Ideal.log_coe, if_neg (by norm_num)]

/-- The reference's indices of labels: each less 1. -/
def less1 (k : IVec S131072 32) : IVec S131072 32 := subi k (broadcastInDim S131072 ![] bcast_S_S131072 (constantI S_ 32 1#32))

/-- The lookup of labels from -1 to 2 is log 1/2, -/
theorem label_at (k : IVec S131072 32) (hk : ∀ i, Within (-1) 2 (k i)) (i : S131072.Idx) :
    lookup (less1 k) table i = ((Real.log (1 / 2) : ℝ) : EReal) :=
  lookup_eq _ _ _ (fun j => label_index (hk j)) table_at i

/-- and so is that of indices from -2 to 1. -/
theorem index_at (k : IVec S131072 32) (hk : ∀ i, Within (-2) 1 (k i)) (i : S131072.Idx) :
    lookup k table i = ((Real.log (1 / 2) : ℝ) : EReal) :=
  lookup_eq _ _ _ hk table_at i

/-- The only index of the mean's array. -/
def o1 : S1.Idx := fun a => match a with | ⟨0, _⟩ => (0 : Fin 1)

theorem eq_o1 (i : S1.Idx) : i = o1 := by
  funext a
  match a with
  | ⟨0, _⟩ => exact Subsingleton.elim (α := Fin 1) _ _

/-- The entry `a` of the reference's table -2, 2 of means, as a scalar. -/
def mean (a : Nat) (h : S2.Slices ![a] S1) : FVec Ideal S_ .f32 :=
  shapeCast _ (extractStridedSlice S1 ![a] (fun i => FloatOps.ofBits .f32 (lit0 (S2.rowMajor i))) h) shapeCasts_S1_S_

/-- Entry 0 is -2, -/
theorem mean0_at (j : S_.Idx) : mean 0 slices_S2_S1_0 j = Ideal.ofBits .f32 0xC0000000#32 := by
  unfold mean shapeCast
  rw [eq_o1 (Shape.reshapeEquiv _ _)]
  rfl

/-- entry 1 is 2. -/
theorem mean1_at (j : S_.Idx) : mean 1 slices_S2_S1_1 j = Ideal.ofBits .f32 0x40000000#32 := by
  unfold mean shapeCast
  rw [eq_o1 (Shape.reshapeEquiv _ _)]
  rfl

/-- The first result. -/
def ref1 (k : IVec S131072 32) (x o : FVec Ideal S131072 .f32) (μ : FVec Ideal S1 .f32) : FVec Ideal S131072 .f32 :=
  addf (addf (lookup (less1 k) table) (normal x (broadcastInDim S131072 ![0] bcast_S1_S131072_0 μ) (constant S_ .f32 0x3F800000#32)))
    (normal o x tenth)

/-- The second result. -/
def ref20 (k z : IVec S131072 32) (x o : FVec Ideal S131072 .f32) : FVec Ideal S131072 .f32 :=
  addf (addf (addf (lookup (less1 k) table) (lookup z table)) (normal x (spread (mean 0 slices_S2_S1_0)) (constant S_ .f32 0x3F800000#32)))
    (normal o x tenth)

/-- The third result. -/
def ref21 (k z : IVec S131072 32) (x o : FVec Ideal S131072 .f32) : FVec Ideal S131072 .f32 :=
  addf (addf (addf (lookup (less1 k) table) (lookup z table)) (normal x (spread (mean 1 slices_S2_S1_1)) (constant S_ .f32 0x3FC00000#32)))
    (normal o x tenth)

/-- A scalar at every entry, at one. -/
theorem spread_at (σ : FVec Ideal S_ .f32) (s : EReal) (hs : ∀ j, σ j = s) (i : S131072.Idx) : spread σ i = s := hs _

/-- A sum of arrays at an entry. -/
theorem addf_at (a b : FVec Ideal S131072 .f32) (i : S131072.Idx) : addf a b i = (a i : EReal) + b i := rfl

/-- The first result at an entry. -/
theorem ref1_at (k : IVec S131072 32) (x o : FVec Ideal S131072 .f32) (μ : FVec Ideal S1 .f32)
    (hk : ∀ i, Within (-1) 2 (k i)) (i : S131072.Idx) :
    ref1 k x o μ i = (((Real.log (1 / 2) : ℝ) : EReal) + dens (x i) (μ o1) ((1 : ℝ) : EReal)) + dens (o i) (x i) ((1 / 10 : ℝ) : EReal) := by
  have hμ : broadcastInDim S131072 ![0] bcast_S1_S131072_0 μ i = μ o1 := congrArg μ (eq_o1 _)
  unfold ref1
  rw [addf_at, addf_at, label_at k hk i, normal_at x _ (constant S_ .f32 0x3F800000#32) _ (fun _ => bits_one) i, normal_at o x tenth _ tenth_at i, hμ]

/-- The second. -/
theorem ref20_at (k z : IVec S131072 32) (x o : FVec Ideal S131072 .f32)
    (hk : ∀ i, Within (-1) 2 (k i)) (hz : ∀ i, Within (-2) 1 (z i)) (i : S131072.Idx) :
    ref20 k z x o i = ((((Real.log (1 / 2) : ℝ) : EReal) + ((Real.log (1 / 2) : ℝ) : EReal))
      + dens (x i) (Ideal.ofBits .f32 0xC0000000#32) ((1 : ℝ) : EReal)) + dens (o i) (x i) ((1 / 10 : ℝ) : EReal) := by
  unfold ref20
  rw [addf_at, addf_at, addf_at, label_at k hk i, index_at z hz i, normal_at x _ (constant S_ .f32 0x3F800000#32) _ (fun _ => bits_one) i,
    normal_at o x tenth _ tenth_at i, spread_at _ _ mean0_at i]

/-- The third. -/
theorem ref21_at (k z : IVec S131072 32) (x o : FVec Ideal S131072 .f32)
    (hk : ∀ i, Within (-1) 2 (k i)) (hz : ∀ i, Within (-2) 1 (z i)) (i : S131072.Idx) :
    ref21 k z x o i = ((((Real.log (1 / 2) : ℝ) : EReal) + ((Real.log (1 / 2) : ℝ) : EReal))
      + dens (x i) (Ideal.ofBits .f32 0x40000000#32) ((3 / 2 : ℝ) : EReal)) + dens (o i) (x i) ((1 / 10 : ℝ) : EReal) := by
  unfold ref21
  rw [addf_at, addf_at, addf_at, label_at k hk i, index_at z hz i, normal_at x _ (constant S_ .f32 0x3FC00000#32) _ (fun _ => bits_three_halves) i,
    normal_at o x tenth _ tenth_at i, spread_at _ _ mean1_at i]

variable (m : (ℓ : Loc nD τ sig) → Buf (Elt Ideal) ℓ) (ρ : Dev nD → PrngReg)

set_option maxRecDepth 8192 in
/-- Every run of the reference leaves `ref1`, `ref20` and `ref21` of its arguments. -/
theorem results : θ_run defs (onTc (τ := τ) (main (F := Ideal))) ⟨m, fun _ => 0, ρ⟩ (fun r => ∀ c : Dev nD,
      r.2.mem ((c.tc : Thread nD τ).loc main_v38) = ref1 (m ((c.tc : Thread nD τ).loc main_arg0))
        (m ((c.tc : Thread nD τ).loc main_arg1)) (m ((c.tc : Thread nD τ).loc main_arg2)) (m ((c.tc : Thread nD τ).loc main_arg11))
      ∧ r.2.mem ((c.tc : Thread nD τ).loc main_v78) = ref20 (m ((c.tc : Thread nD τ).loc main_arg3))
        (m ((c.tc : Thread nD τ).loc main_arg4)) (m ((c.tc : Thread nD τ).loc main_arg5)) (m ((c.tc : Thread nD τ).loc main_arg6))
      ∧ r.2.mem ((c.tc : Thread nD τ).loc main_v118) = ref21 (m ((c.tc : Thread nD τ).loc main_arg7))
        (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (Cert.ReferenceIdeal.Value.run m ρ).mono fun _ h c => by
    obtain ⟨h1, h2, h3, h4⟩ := h c
    exact ⟨h1, h2, h3, h4⟩

end Cert.Proof.RefValue

end
-- ==== Proof.Results.lean ====
/- Hand-written, untrusted: THE TWO PROGRAMS' RESULTS ARE ONE FUNCTION. For labels from -1 to 2 and indices from -2 to 1, each
   of the reference's three arrays is the kernel's. -/
module

public import proofs.«01_k».proof.Proof.Arrays
public import proofs.«01_k».proof.Proof.RefValue

@[expose] public section

noncomputable section

namespace Cert.Proof.Results

open Cert.KernelIdeal Idealize.ShloMosaic
open Cert.Proof.Block Cert.Proof.Lookup Cert.Proof.Consts Cert.Proof.Equation Cert.Proof.RefValue

/-- The kernel's scalar function is `quad` where its constants are real. -/
theorem logp_eq (c k μ x o : Ideal .f32) (C K : ℝ) (hc : c = (C : EReal)) (hk : k = (K : EReal)) :
    logp c k μ x o = quad C K ((x : EReal) - μ) ((o : EReal) - x) := by
  subst hc hk
  unfold quad
  rw [← bits_fifty]
  rfl

/-- The first results agree. -/
theorem first_eq (k : IVec S131072 32) (x o : FVec Ideal S131072 .f32) (μ : FVec Ideal S1 .f32)
    (hk : ∀ i, Within (-1) 2 (k i)) : ref1 k x o μ = Cert.Proof.Arrays.res1 (F := Ideal) μ x o := by
  funext i
  refine (ref1_at k x o μ hk i).trans ((first _ _ _).trans ?_)
  exact (logp_eq _ _ _ _ _ _ _ named_c1 bits_half).symm

/-- The second results agree. -/
theorem second_eq (k z : IVec S131072 32) (x o : FVec Ideal S131072 .f32)
    (hk : ∀ i, Within (-1) 2 (k i)) (hz : ∀ i, Within (-2) 1 (z i)) : ref20 k z x o = Cert.Proof.Arrays.res20 (F := Ideal) x o := by
  funext i
  refine (ref20_at k z x o hk hz i).trans ((second _ _ _).trans ?_)
  exact (logp_eq _ _ _ _ _ _ _ named_c20 bits_half).symm

/-- The third results agree. -/
theorem third_eq (k z : IVec S131072 32) (x o : FVec Ideal S131072 .f32)
    (hk : ∀ i, Within (-1) 2 (k i)) (hz : ∀ i, Within (-2) 1 (z i)) : ref21 k z x o = Cert.Proof.Arrays.res21 (F := Ideal) x o := by
  funext i
  refine (ref21_at k z x o hk hz i).trans ((third _ _ _).trans ?_)
  exact (logp_eq _ _ _ _ _ _ _ named_c21 named_k21).symm

end Cert.Proof.Results

end
-- ==== Proof.lean ====
/- Hand-written, untrusted: THE CLAIM, assembled: the three frames, the four named constants, and the equality of the three
   results of the kernel's idealization and of the reference. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_names_entries
public import proofs.«01_k».proof.Proof.Arrays
public import proofs.«01_k».proof.Proof.RefValue
public import proofs.«01_k».proof.Proof.Results
public import Idealize.ShloMosaic.Adequacy
public import Idealize.ShloMosaic.Init

@[expose] public section

noncomputable section

namespace Cert.Proof

open Idealize.ShloMosaic Idealize.ShloMosaic.TcCoe Idealize.SL.Sem

/-- The reference leaves its arguments, and has no counters to leave. -/
theorem frame_reference : quiescent_ReferenceIdeal := fun m g _ =>
  (Cert.ReferenceIdeal.Value.run m g).mono fun _ h =>
    ⟨fun c => (h c).2.2.2, sem_eq_zero_of_no_sems (by decide) _⟩

/-- Each literal the kernel's idealization names is the constant computed from the real of that name. -/
theorem preserves : preserves_Kernel_KernelIdeal :=
  ⟨IdealRules.named_const.statement Cert.KernelIdeal.κ "c_1" .f32 0xBE69EBF4#32 ((Real.log ((5 / 2) * Real.pi⁻¹) : ℝ) : EReal) rfl,
    IdealRules.named_const.statement Cert.KernelIdeal.κ "c_20" .f32 0xBF6BED15#32 ((Real.log ((5 / 4) * Real.pi⁻¹) : ℝ) : EReal) rfl,
    IdealRules.named_const.statement Cert.KernelIdeal.κ "k_21" .f32 0x3E638E39#32 ((2 / 9 : ℝ) : EReal) rfl,
    IdealRules.named_const.statement Cert.KernelIdeal.κ "c_21" .f32 0xBFA9DCD2#32 ((Real.log ((5 / 6) * Real.pi⁻¹) : ℝ) : EReal) rfl⟩

/-- The three results of the kernel's idealization are the reference's, for labels from -1 to 2 and indices from -2 to 1. -/
theorem values : algebraic_KernelIdeal_ReferenceIdeal_pre_names_entries := fun m g m' g' hp ha => by
  refine ⟨fun c => Arrays.res1 (m ((c.tc : Thread Cert.KernelIdeal.nD Cert.KernelIdeal.τ).loc Cert.KernelIdeal.main_arg11)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Arrays.res20 (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Arrays.res21 (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Arrays.run m g, (RefValue.results m' g').mono fun _ h c => ?_⟩
  obtain ⟨h1, h2, h3, hr⟩ := h c
  obtain ⟨a0, a1, a2, a3, a4, a5, a6, a7, a8, a9, a10, a11⟩ := ha c
  obtain ⟨p0, p3, p4, p7, p8⟩ := Lookup.pre_within _ _ _ _ _ _ _ _ _ _ _ _ (hp c)
  refine ⟨h1.trans ?_, h2.trans ?_, h3.trans ?_, hr⟩
  · rw [a0, a1, a2, a11]
    exact Results.first_eq _ _ _ _ p0
  · rw [a3, a4, a5, a6]
    exact Results.second_eq _ _ _ _ p3 p4
  · rw [a7, a8, a9, a10]
    exact Results.third_eq _ _ _ _ p7 p8

theorem claim : Cert.Claim :=
  ⟨Cert.Kernel.Gen.facts, Cert.KernelIdeal.Gen.facts, Cert.ReferenceIdeal.Gen.facts, Cert.Pre_names_entries.Gen.facts,
    fun m g _ => Cert.Kernel.Gen.frame m g, fun m g _ => Cert.KernelIdeal.Gen.frame m g, fun m g _ => Cert.KernelIdeal.Gen.frame m g,
    frame_reference, fun m g _ => frame_reference m g trivial, preserves, values⟩

end Cert.Proof

end
